-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![16384, 1024]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S1x1024 : Shape := ⟨2, ![1, 1024]⟩
abbrev S4x576x1024 : Shape := ⟨3, ![4, 576, 1024]⟩
abbrev S3x1x1024 : Shape := ⟨3, ![3, 1, 1024]⟩
abbrev S4 : Shape := ⟨1, ![4]⟩
abbrev S3 : Shape := ⟨1, ![3]⟩
abbrev S1 : Shape := ⟨1, ![1]⟩
abbrev S_ : Shape := ⟨0, ![]⟩
abbrev S1x576x1024 : Shape := ⟨3, ![1, 576, 1024]⟩
abbrev S576x1024 : Shape := ⟨2, ![576, 1024]⟩
abbrev S1024 : Shape := ⟨1, ![1024]⟩
abbrev S1x64x1024 : Shape := ⟨3, ![1, 64, 1024]⟩
abbrev S64x1024 : Shape := ⟨2, ![64, 1024]⟩
abbrev S1x1x1024 : Shape := ⟨3, ![1, 1, 1024]⟩

abbrev nBuf : Space → Nat
  | .hbm => 2
  | .vmem => 4
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .local _ .vmem, ⟨0, _⟩ => ⟨S1x1024, .f32⟩
  | .local _ .vmem, ⟨1, _⟩ => ⟨S4x576x1024, .f32⟩
  | .local _ .vmem, ⟨2, _⟩ => ⟨S1x1024, .f32⟩
  | .local _ .vmem, ⟨3, _⟩ => ⟨S3x1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  (ofTc nBuf bufTy 1 11 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_27 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_18 : BitVec 32 := 1#32
  let v24 : BitVec 32 := Scalar.addi v2 c1_i32_18
  let c4_i32_19 : BitVec 32 := 4#32
  let c0_i32_20 : BitVec 32 := 0#32
  let v25 : BitVec 1 := Scalar.cmpi .eq c4_i32_19 c0_i32_20
  let c1_i32_21 : BitVec 32 := 1#32
  let v26 : BitVec 32 := Scalar.select v25 c1_i32_21 c4_i32_19
  let v27 : BitVec 32 := Scalar.remsi v24 v26
  let c0_i32_23 : BitVec 32 := 0#32
  let v29 : BitVec 1 := Scalar.cmpi .slt v27 c0_i32_23
  let c0_i32_24 : BitVec 32 := 0#32
  let v30 : BitVec 1 := Scalar.cmpi .slt v26 c0_i32_24
  let v31 : BitVec 1 := Scalar.xori v29 v30
  let c0_i32_22 : BitVec 32 := 0#32
  let v28 : BitVec 1 := Scalar.cmpi .ne v27 c0_i32_22
  let v32 : BitVec 1 := Scalar.andi v31 v28
  let v33 : BitVec 32 := Scalar.addi v27 v26
  let v34 : BitVec 32 := Scalar.select v32 v33 v27
  let c1_i32_26 : BitVec 32 := 1#32
  let v35 : BitVec 32 := Scalar.muli v34 c1_i32_26
  let v36 : BitVec 32 := Scalar.addi c0_i32_27 v35
  v36.toNat
def k0_dev2 (d0 : Dev nD) : Nat :=
  let c0_i32_37 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_28 : BitVec 32 := 2#32
  let v37 : BitVec 32 := Scalar.addi v2 c2_i32_28
  let c4_i32_29 : BitVec 32 := 4#32
  let c0_i32_30 : BitVec 32 := 0#32
  let v38 : BitVec 1 := Scalar.cmpi .eq c4_i32_29 c0_i32_30
  let c1_i32_31 : BitVec 32 := 1#32
  let v39 : BitVec 32 := Scalar.select v38 c1_i32_31 c4_i32_29
  let v40 : BitVec 32 := Scalar.remsi v37 v39
  let c0_i32_33 : BitVec 32 := 0#32
  let v42 : BitVec 1 := Scalar.cmpi .slt v40 c0_i32_33
  let c0_i32_34 : BitVec 32 := 0#32
  let v43 : BitVec 1 := Scalar.cmpi .slt v39 c0_i32_34
  let v44 : BitVec 1 := Scalar.xori v42 v43
  let c0_i32_32 : BitVec 32 := 0#32
  let v41 : BitVec 1 := Scalar.cmpi .ne v40 c0_i32_32
  let v45 : BitVec 1 := Scalar.andi v44 v41
  let v46 : BitVec 32 := Scalar.addi v40 v39
  let v47 : BitVec 32 := Scalar.select v45 v46 v40
  let c1_i32_36 : BitVec 32 := 1#32
  let v48 : BitVec 32 := Scalar.muli v47 c1_i32_36
  let v49 : BitVec 32 := Scalar.addi c0_i32_37 v48
  v49.toNat
def k0_dev3 (d0 : Dev nD) : Nat :=
  let c0_i32_47 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_38 : BitVec 32 := 3#32
  let v50 : BitVec 32 := Scalar.addi v2 c3_i32_38
  let c4_i32_39 : BitVec 32 := 4#32
  let c0_i32_40 : BitVec 32 := 0#32
  let v51 : BitVec 1 := Scalar.cmpi .eq c4_i32_39 c0_i32_40
  let c1_i32_41 : BitVec 32 := 1#32
  let v52 : BitVec 32 := Scalar.select v51 c1_i32_41 c4_i32_39
  let v53 : BitVec 32 := Scalar.remsi v50 v52
  let c0_i32_43 : BitVec 32 := 0#32
  let v55 : BitVec 1 := Scalar.cmpi .slt v53 c0_i32_43
  let c0_i32_44 : BitVec 32 := 0#32
  let v56 : BitVec 1 := Scalar.cmpi .slt v52 c0_i32_44
  let v57 : BitVec 1 := Scalar.xori v55 v56
  let c0_i32_42 : BitVec 32 := 0#32
  let v54 : BitVec 1 := Scalar.cmpi .ne v53 c0_i32_42
  let v58 : BitVec 1 := Scalar.andi v57 v54
  let v59 : BitVec 32 := Scalar.addi v53 v52
  let v60 : BitVec 32 := Scalar.select v58 v59 v53
  let c1_i32_46 : BitVec 32 := 1#32
  let v61 : BitVec 32 := Scalar.muli v60 c1_i32_46
  let v62 : BitVec 32 := Scalar.addi c0_i32_47 v61
  v62.toNat
def k0_dev4 (d0 : Dev nD) : Nat :=
  let c0_i32_158 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_147 : BitVec 32 := 2#32
  let v167 : BitVec 32 := Scalar.addi v2 c2_i32_147
  let c4_i32_148 : BitVec 32 := 4#32
  let c0_i32_149 : BitVec 32 := 0#32
  let v168 : BitVec 1 := Scalar.cmpi .eq c4_i32_148 c0_i32_149
  let c1_i32_150 : BitVec 32 := 1#32
  let v169 : BitVec 32 := Scalar.select v168 c1_i32_150 c4_i32_148
  let v170 : BitVec 32 := Scalar.remsi v167 v169
  let c0_i32_152 : BitVec 32 := 0#32
  let v172 : BitVec 1 := Scalar.cmpi .slt v170 c0_i32_152
  let c0_i32_153 : BitVec 32 := 0#32
  let v173 : BitVec 1 := Scalar.cmpi .slt v169 c0_i32_153
  let v174 : BitVec 1 := Scalar.xori v172 v173
  let c0_i32_151 : BitVec 32 := 0#32
  let v171 : BitVec 1 := Scalar.cmpi .ne v170 c0_i32_151
  let v175 : BitVec 1 := Scalar.andi v174 v171
  let v176 : BitVec 32 := Scalar.addi v170 v169
  let v177 : BitVec 32 := Scalar.select v175 v176 v170
  let c1_i32_157 : BitVec 32 := 1#32
  let v178 : BitVec 32 := Scalar.muli v177 c1_i32_157
  let v179 : BitVec 32 := Scalar.addi c0_i32_158 v178
  v179.toNat
def k0_dev5 (d0 : Dev nD) : Nat :=
  let c0_i32_172 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_161 : BitVec 32 := 1#32
  let v186 : BitVec 32 := Scalar.addi v2 c1_i32_161
  let c4_i32_162 : BitVec 32 := 4#32
  let c0_i32_163 : BitVec 32 := 0#32
  let v187 : BitVec 1 := Scalar.cmpi .eq c4_i32_162 c0_i32_163
  let c1_i32_164 : BitVec 32 := 1#32
  let v188 : BitVec 32 := Scalar.select v187 c1_i32_164 c4_i32_162
  let v189 : BitVec 32 := Scalar.remsi v186 v188
  let c0_i32_166 : BitVec 32 := 0#32
  let v191 : BitVec 1 := Scalar.cmpi .slt v189 c0_i32_166
  let c0_i32_167 : BitVec 32 := 0#32
  let v192 : BitVec 1 := Scalar.cmpi .slt v188 c0_i32_167
  let v193 : BitVec 1 := Scalar.xori v191 v192
  let c0_i32_165 : BitVec 32 := 0#32
  let v190 : BitVec 1 := Scalar.cmpi .ne v189 c0_i32_165
  let v194 : BitVec 1 := Scalar.andi v193 v190
  let v195 : BitVec 32 := Scalar.addi v189 v188
  let v196 : BitVec 32 := Scalar.select v194 v195 v189
  let c1_i32_171 : BitVec 32 := 1#32
  let v197 : BitVec 32 := Scalar.muli v196 c1_i32_171
  let v198 : BitVec 32 := Scalar.addi c0_i32_172 v197
  v198.toNat
def k0_dev6 (d0 : Dev nD) : Nat :=
  let c0_i32_186 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_175 : BitVec 32 := 3#32
  let v205 : BitVec 32 := Scalar.addi v2 c3_i32_175
  let c4_i32_176 : BitVec 32 := 4#32
  let c0_i32_177 : BitVec 32 := 0#32
  let v206 : BitVec 1 := Scalar.cmpi .eq c4_i32_176 c0_i32_177
  let c1_i32_178 : BitVec 32 := 1#32
  let v207 : BitVec 32 := Scalar.select v206 c1_i32_178 c4_i32_176
  let v208 : BitVec 32 := Scalar.remsi v205 v207
  let c0_i32_180 : BitVec 32 := 0#32
  let v210 : BitVec 1 := Scalar.cmpi .slt v208 c0_i32_180
  let c0_i32_181 : BitVec 32 := 0#32
  let v211 : BitVec 1 := Scalar.cmpi .slt v207 c0_i32_181
  let v212 : BitVec 1 := Scalar.xori v210 v211
  let c0_i32_179 : BitVec 32 := 0#32
  let v209 : BitVec 1 := Scalar.cmpi .ne v208 c0_i32_179
  let v213 : BitVec 1 := Scalar.andi v212 v209
  let v214 : BitVec 32 := Scalar.addi v208 v207
  let v215 : BitVec 32 := Scalar.select v213 v214 v208
  let c1_i32_185 : BitVec 32 := 1#32
  let v216 : BitVec 32 := Scalar.muli v215 c1_i32_185
  let v217 : BitVec 32 := Scalar.addi c0_i32_186 v216
  v217.toNat
abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S16384x1024 : Shape := ⟨2, ![16384, 1024]⟩
abbrev S_ : Shape := ⟨0, ![]⟩
abbrev S1024 : Shape := ⟨1, ![1024]⟩
abbrev S1x1024 : Shape := ⟨2, ![1, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S_, .f32⟩
  | .hbm, ⟨2, _⟩ => ⟨S1024, .f32⟩
  | .hbm, ⟨3, _⟩ => ⟨S1x1024, .f32⟩
  | .hbm, ⟨4, _⟩ => ⟨S_, .f32⟩
  | .hbm, ⟨5, _⟩ => ⟨S1x1024, .f32⟩
  | .hbm, ⟨6, _⟩ => ⟨S1x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proof.Mesh.lean ====
/-
  The four devices and the cells they talk over.

  Every device keeps its own column sums in a row buffer and has an inbox of three one-row slots. Slot `s` of a
  device is filled by the device `s + 1` places further round the mesh. This module names those devices, the
  inbox slots, the semaphores and the places ("ports") at which a device's semaphores are credited by others
  or by its own departing copies.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.ColMean

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## Who is where -/

set_option backward.proofsInPublic true in
/-- The device whose row lands in slot `s` of device `c`: `s + 1` places further round. -/
def src (c : Dev nD) (s : Fin 3) : Dev nD := ⟨(c.val + (s.val + 1)) % 4, Nat.mod_lt _ (by decide)⟩

set_option backward.proofsInPublic true in
/-- The device in whose slot `s` the row of device `c` lands: `s + 1` places back. -/
def dst (c : Dev nD) (s : Fin 3) : Dev nD := ⟨(c.val + (3 - s.val)) % 4, Nat.mod_lt _ (by decide)⟩

theorem src_dst (c : Dev nD) (s : Fin 3) : src (dst c s) s = c := by revert c s; decide
theorem dst_src (c : Dev nD) (s : Fin 3) : dst (src c s) s = c := by revert c s; decide

/-- Going round by `s + 1` places, as a permutation of the devices. -/
def turn (s : Fin 3) : Dev nD ≃ Dev nD := ⟨fun c => src c s, fun c => dst c s, fun c => dst_src c s, fun c => src_dst c s⟩

/-- The six devices that the kernel computes from its own number: three to signal, three to copy to. -/
theorem peer1 (c : Dev nD) : (⟨k0_dev1 c, k0_dev1_lt c⟩ : Dev nD) = src c 0 := by revert c; decide
theorem peer2 (c : Dev nD) : (⟨k0_dev2 c, k0_dev2_lt c⟩ : Dev nD) = src c 1 := by revert c; decide
theorem peer3 (c : Dev nD) : (⟨k0_dev3 c, k0_dev3_lt c⟩ : Dev nD) = src c 2 := by revert c; decide
theorem peer4 (c : Dev nD) : (⟨k0_dev4 c, k0_dev4_lt c⟩ : Dev nD) = dst c 1 := by revert c; decide
theorem peer5 (c : Dev nD) : (⟨k0_dev5 c, k0_dev5_lt c⟩ : Dev nD) = dst c 2 := by revert c; decide
theorem peer6 (c : Dev nD) : (⟨k0_dev6 c, k0_dev6_lt c⟩ : Dev nD) = dst c 0 := by revert c; decide

/-! ## Buffers and semaphores -/

/-- The device's block of the operand, the result's staging row, the four chunk buffers, the row of own sums, the inbox. -/
abbrev xM : Memref sig .tc .hbm S4096x1024 .f32 := Memref.whole main_arg0
abbrev outM : Memref sig .tc .vmem S1x1024 .f32 := Memref.whole cc0_stg0_0
abbrev bufM : Memref sig .tc .vmem S4x576x1024 .f32 := Memref.whole cc0_scratch0
abbrev ownM : Memref sig .tc .vmem S1x1024 .f32 := Memref.whole cc0_scratch1
abbrev boxM : Memref sig .tc .vmem S3x1x1024 .f32 := Memref.whole cc0_scratch2

theorem slot_inb (s : Fin 3) : ∀ a, (![s.val, 0, 0] : Fin 3 → ℕ) a + S1x1x1024.size a ≤ S3x1x1024.size a := by
  revert s; decide
theorem three_inb (s : Fin 3) : ∀ a, (![s.val] : Fin 1 → ℕ) a + S1.size a ≤ S3.size a := by revert s; decide
theorem back_inb (s : Fin 3) : ∀ a, (![2 - s.val] : Fin 1 → ℕ) a + S1.size a ≤ S3.size a := by revert s; decide

/-- The rectangle of slot `s` in the inbox, and the slot as a row. -/
abbrev slotR (s : Fin 3) : Rect S3x1x1024 := Rect.unit (s := S3x1x1024) ![s.val, 0, 0] S1x1x1024.size (slot_inb s)
abbrev slotM (s : Fin 3) : Memref sig .tc .vmem S1x1024 .f32 :=
  (boxM.slice (slotR s) (fun _ => rfl)).squeeze S1x1024 squeezes_S1x1x1024_S1x1024

/-- The barrier semaphore; the semaphore a row landing in slot `s` completes on; the one a row departing for a
    slot `s` completes on. -/
abbrev barS : Sem sig := (SemArray.scalar (sig.barrier 0 rfl) : Sems sig S_).sem
abbrev landS (s : Fin 3) : DmaSem sig :=
  ((cc0_scratch5.slice (Rect.unit (s := S3) ![s.val] S1.size (three_inb s))).squeeze S_ squeezes_S1_S_).sem
abbrev goneS (s : Fin 3) : DmaSem sig :=
  ((cc0_scratch4.slice (Rect.unit (s := S3) ![2 - s.val] S1.size (back_inb s))).squeeze S_ squeezes_S1_S_).sem
theorem four_inb (k : Fin 4) : ∀ a, (![k.val] : Fin 1 → ℕ) a + S1.size a ≤ S4.size a := by revert k; decide
/-- The semaphore of chunk buffer `k`. -/
abbrev copyS (k : Fin 4) : DmaSem sig :=
  ((cc0_scratch3.slice (Rect.unit (s := S4) ![k.val] S1.size (four_inb k))).squeeze S_ squeezes_S1_S_).sem

/-! ## Ports -/

/-- A device's seven semaphores that the exchange runs on: its barrier, its three landings, its three departures. -/
inductive Port
  | bar
  | land (s : Fin 3)
  | gone (s : Fin 3)
  deriving DecidableEq

/-- All of them. -/
abbrev ports : List Port := [.bar, .land 0, .land 1, .land 2, .gone 0, .gone 1, .gone 2]

instance : Fintype Port := ⟨⟨ports, by decide⟩, fun p => by
  rcases p with _ | s | s <;> first | decide | (revert s; decide)⟩

/-- A port's semaphore, and its cell on device `c`. -/
abbrev portSem : Port → SemLoc sig
  | .bar => .reg barS
  | .land s => .dma (landS s)
  | .gone s => .dma (goneS s)
abbrev cell (c : Dev nD) (p : Port) : GSem nD τ sig := ((c : Thread nD τ), portSem p)

theorem portSem_inj : ∀ p q : Port, portSem p = portSem q → p = q := by decide

theorem cell_eq_iff {c d : Dev nD} {p q : Port} : cell c p = cell d q ↔ c = d ∧ p = q :=
  ⟨fun h => ⟨congrArg (fun g : GSem nD τ sig => g.1.1) h, portSem_inj _ _ (congrArg Prod.snd h)⟩, fun h => by rw [h.1, h.2]⟩

/-- The port of a cell, if it is one. -/
def portOf (g : GSem nD τ sig) : Option Port := if g.1.2 = .tc then ports.find? fun p => portSem p = g.2 else none

theorem find_port : ∀ p : Port, (ports.find? fun q => portSem q = portSem p) = some p := by decide

@[simp] theorem portOf_cell (c : Dev nD) (p : Port) : portOf (cell c p) = some p := by
  unfold portOf; rw [if_pos rfl]; exact find_port p

/-- A port's conjunction, written out. -/
theorem bigSep_ports {M : Type} [URA M] (Φ : Port → sProp M) :
    bigSep Finset.univ Φ = iprop(Φ .bar ∗ Φ (.land 0) ∗ Φ (.land 1) ∗ Φ (.land 2) ∗ Φ (.gone 0) ∗ Φ (.gone 1) ∗ Φ (.gone 2)) :=
  bigSep_univ_eq_bigSepL ports (by decide) (by decide) Φ
theorem bigSep_three {M : Type} [URA M] (Φ : Fin 3 → sProp M) : bigSep Finset.univ Φ = iprop(Φ 0 ∗ Φ 1 ∗ Φ 2) :=
  bigSep_univ_eq_bigSepL [0, 1, 2] (by decide) (by decide) Φ

/-- A row's copy credits this many units. -/
abbrev N : ℕ := (slotM 0).view.dmaCredit
theorem N_pos : 0 < N := View.dmaCredit_pos _ (by decide)
theorem N_slot (s : Fin 3) : (slotM s).view.dmaCredit = N := rfl
theorem N_own : (ownM : Memref sig .tc .vmem S1x1024 .f32).view.dmaCredit = N := rfl

end Cert.ColMean

end
-- ==== Proof.Protocol.lean ====
/-
  The exchange, as rounds of duties.

  Round 0 is the only round.
  * The barrier of device `c` has three duties of one unit. Duty `s` is paid by the device `dst c s`, which
    hands over its inbox slot `s`, the one that `c` fills, and the fact that its landing cell `s` stands at round 0.
  * Landing cell `s` of `c` has one duty, paid by the copy that `src c s` makes: slot `s` now holds the column
    sums of `src c s`.
  * Departure cell `s` of `c` has one duty, paid by the copy that `c` itself makes to `dst c s`: the share of
    its own row that it lent to that copy.
  The column sums are a parameter here.
-/
module

public import proofs.«01_k».proof.Proof.Mesh

@[expose] public section

noncomputable section

namespace Cert.ColMean

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The ghost algebra: staging, exchange, local copies -/

abbrev UX : Type := URounds (GSem nD τ sig) (Fin 3)
abbrev UU : Type := UR sig nD τ × UX × Counters

local notation "𝕄" => MT nD τ sig Unit (Elt F) ℕ UU ℕ

/-- Where the staging's, the exchange's and the copies' ghost states lie. -/
abbrev EP : Emb (UR sig nD τ) (MT nD τ sig Unit (Elt F) ℕ UU ℕ) := embL
abbrev EX : Emb UX (MT nD τ sig Unit (Elt F) ℕ UU ℕ) := ((Emb.inl : Emb UX (UX × Counters))).trans embR

/-- A row: one device's column sums. -/
abbrev Row (F : FTy → Type) : Type := Vec F S1x1024 .f32

variable (own : Dev nD → Row F)

/-! ## The payloads -/

/-- The share of its own row that a device lends to the copy for slot `s`. -/
def lent : Fin 3 → PosShare TreeShare
  | 0 => fullShare.left
  | 1 => fullShare.right.left
  | 2 => fullShare.right.right

/-- Slot `s` of `c`'s inbox at some contents. -/
def slotAny (c : Dev nD) (s : Fin 3) : sProp 𝕄 :=
  iprop(∃ f : Buf (Elt F) ((slotM s).view.loc (c : Thread nD τ)), (slotM s).view.loc (c : Thread nD τ) ↦[(slotM s).view.set]{fullShare} f)

/-- What the payer of duty `s` of a port of `c` hands over. -/
def pay (c : Dev nD) : Port → Fin 3 → sProp 𝕄
  | .bar, s => iprop(slotAny (F := F) (dst c s) s ∗ reached EX (cell (dst c s) (.land s)) 0)
  | .land s, _ => owns (c : Thread nD τ) (slotM s) fullShare (own (src c s))
  | .gone s, _ => owns (c : Thread nD τ) ownM (lent s) (own c)

/-- A port's duties, and what each is worth. -/
def dutiesOf : Port → Finset (Fin 3)
  | .bar => Finset.univ
  | _ => {0}
def worth : Port → ℕ
  | .bar => 1
  | _ => N

theorem worth_pos (p : Port) : 0 < worth p := by
  cases p
  · exact Nat.one_pos
  · exact N_pos
  · exact N_pos

instance slotAny_storable (c : Dev nD) (s : Fin 3) : BI.Storable (upEmb : UEmb _ 𝕄) (slotAny (F := F) c s) := by
  unfold slotAny; infer_instance
instance pay_storable (c : Dev nD) (p : Port) (s : Fin 3) : BI.Storable (upEmb : UEmb _ 𝕄) (pay own c p s) := by
  cases p <;> (unfold pay; infer_instance)

/-- The schedule of the exchange. -/
def plan : Rounds.Schedule (GSem nD τ sig) (Fin 3) 𝕄 where
  duties g r := if r = 0 then (portOf g).elim ∅ dutiesOf else ∅
  unitless _ := False
  amount g _ _ := (portOf g).elim 1 worth
  payload g _ s := (portOf g).elim iprop(emp) fun p => pay own g.1.1 p s
  amount_pos g _ _ _ := by cases portOf g with
    | none => exact Nat.one_pos
    | some p => exact worth_pos p

instance plan_storable (g : GSem nD τ sig) (r : ℕ) (s : Fin 3) :
    BI.Storable (upEmb : UEmb _ 𝕄) ((plan own).payload g r s) := by
  show BI.Storable upEmb ((portOf g).elim iprop(emp) fun p => pay own g.1.1 p s)
  cases portOf g <;> (dsimp only [Option.elim]; infer_instance)

/-! ## Its tables -/

theorem plan_duties (c : Dev nD) (p : Port) : (plan own).duties (cell c p) 0 = dutiesOf p := by
  dsimp only [plan]; rw [if_pos rfl, portOf_cell]; rfl
theorem plan_later (g : GSem nD τ sig) : ∀ r, 1 ≤ r → (plan own).duties g r = ∅ :=
  fun r hr => by dsimp only [plan]; exact if_neg (by omega)
theorem plan_amount (c : Dev nD) (p : Port) (r : ℕ) (s : Fin 3) : (plan own).amount (cell c p) r s = worth p := by
  dsimp only [plan]; rw [portOf_cell]; rfl
theorem plan_payload (c : Dev nD) (p : Port) (r : ℕ) (s : Fin 3) : (plan own).payload (cell c p) r s = pay own c p s := by
  dsimp only [plan]; rw [portOf_cell]; rfl
theorem plan_expect (c : Dev nD) (p : Port) : (plan own).expect (cell c p) 0 = (dutiesOf p).card * worth p := by
  unfold Schedule.expect Schedule.amountOf
  rw [plan_duties, Finset.sum_congr rfl fun s _ => plan_amount own c p 0 s, Finset.sum_const, smul_eq_mul]

theorem expect_bar (c : Dev nD) : (plan own).expect (cell c .bar) 0 = 3 := by rw [plan_expect]; rfl
theorem expect_land (c : Dev nD) (s : Fin 3) : (plan own).expect (cell c (.land s)) 0 = N := by
  rw [plan_expect]; exact Nat.one_mul _
theorem expect_gone (c : Dev nD) (s : Fin 3) : (plan own).expect (cell c (.gone s)) 0 = N := by
  rw [plan_expect]; exact Nat.one_mul _

/-- What a wait for a whole round of a port brings. -/
theorem take_bar (c : Dev nD) :
    bigSep ((plan own).duties (cell c .bar) 0 \ ∅) (fun s => (plan own).payload (cell c .bar) 0 s)
      = iprop(pay own c .bar 0 ∗ pay own c .bar 1 ∗ pay own c .bar 2) := by
  rw [Finset.sdiff_empty, plan_duties, bigSep_congr fun s _ => plan_payload own c .bar 0 s]
  exact bigSep_three _
theorem take_land (c : Dev nD) (s : Fin 3) :
    bigSep ((plan own).duties (cell c (.land s)) 0 \ ∅) (fun k => (plan own).payload (cell c (.land s)) 0 k)
      = owns (c : Thread nD τ) (slotM s) fullShare (own (src c s)) := by
  rw [Finset.sdiff_empty, plan_duties, bigSep_congr fun k _ => plan_payload own c (.land s) 0 k]
  exact bigSep_singleton ..
theorem take_gone (c : Dev nD) (s : Fin 3) :
    bigSep ((plan own).duties (cell c (.gone s)) 0 \ ∅) (fun k => (plan own).payload (cell c (.gone s)) 0 k)
      = owns (c : Thread nD τ) ownM (lent s) (own c) := by
  rw [Finset.sdiff_empty, plan_duties, bigSep_congr fun k _ => plan_payload own c (.gone s) 0 k]
  exact bigSep_singleton ..

/-! ## Debts and levels -/

/-- What device `c` owes once it has signalled: the rows for the slots, in the order in which it sends them from the right. -/
def debt (c : Dev nD) : CellTallies nD τ sig Unit :=
  (tallyAt (cell (dst c 0) (.land 0)) () N + tallyAt (cell (dst c 2) (.land 2)) () N) + tallyAt (cell (dst c 1) (.land 1)) () N
/-- What it owes at launch: those rows and a unit to each other device's barrier. -/
def debt₀ (c : Dev nD) : CellTallies nD τ sig Unit :=
  ((debt c + tallyAt (cell (src c 2) .bar) () 1) + tallyAt (cell (src c 1) .bar) () 1) + tallyAt (cell (src c 0) .bar) () 1

/-- One index per cell of a tensor core; a barrier at level 1, a landing at level 2, all else at level 0. -/
def L (g : GSem nD τ sig) : Finset Unit := if g.1.2 = .tc then {()} else ∅
def lvOf : Port → ℕ
  | .bar => 1
  | .land _ => 2
  | .gone _ => 0
def lv (g : GSem nD τ sig) (_ : Unit) : ℕ := (portOf g).elim 0 lvOf

theorem L_off (g : GSem nD τ sig) (h : g.1.2 ≠ .tc) : L g = ∅ := if_neg h
theorem L_core (c : Dev nD) (sm : SemLoc sig) : () ∈ L ((c : Thread nD τ), sm) := by
  unfold L; rw [if_pos rfl]; exact Finset.mem_singleton_self _
theorem lv_cell (c : Dev nD) (p : Port) (u : Unit) : lv (cell c p) u = lvOf p := by unfold lv; rw [portOf_cell]; rfl

/-- A debt is to some device's landing or barrier cell. -/
theorem debt_pos {c : Dev nD} {g : GSem nD τ sig} {u : Unit} (h : 0 < debt c g u) : ∃ d s, g = cell d (.land s) := by
  unfold debt at h
  simp only [Pi.add_apply, Finsupp.add_apply, tallyAt_apply] at h
  by_contra hn
  rw [if_neg fun h' => hn ⟨_, _, h'.1⟩, if_neg fun h' => hn ⟨_, _, h'.1⟩, if_neg fun h' => hn ⟨_, _, h'.1⟩] at h
  exact Nat.lt_irrefl 0 h
theorem debt₀_pos {c : Dev nD} {g : GSem nD τ sig} {u : Unit} (h : 0 < debt₀ c g u) :
    ∃ d, (∃ s, g = cell d (.land s)) ∨ g = cell d .bar := by
  by_contra hn
  have hd : debt c g u = 0 := Nat.eq_zero_of_not_pos fun h' => by
    obtain ⟨d, s, e⟩ := debt_pos h'
    exact hn ⟨d, .inl ⟨s, e⟩⟩
  unfold debt₀ at h
  simp only [Pi.add_apply, Finsupp.add_apply, tallyAt_apply, hd] at h
  rw [if_neg fun h' => hn ⟨_, .inr h'.1⟩, if_neg fun h' => hn ⟨_, .inr h'.1⟩, if_neg fun h' => hn ⟨_, .inr h'.1⟩] at h
  exact Nat.lt_irrefl 0 h

/-- A wait at a level below every debt is allowed. -/
theorem mayWait_below (c : Dev nD) (sm : SemLoc sig) (O : CellTallies nD τ sig Unit) (n : ℕ)
    (hs : lv ((c : Thread nD τ), sm) () ≤ n) (hO : ∀ g u, 0 < O g u → ∃ d p, g = cell d p ∧ n < lvOf p) :
    (levAts L lv : sProp 𝕄) ⊢ MayWait (c : Thread nD τ) sm () O :=
  MayOwe.of_cut (L := L) (lev := lv) n (fun p hp => by rw [Finset.mem_singleton.mp hp]; exact L_core c sm)
    (fun g u hg => by obtain ⟨d, p, rfl, -⟩ := hO g u hg; exact L_core d _)
    (fun p hp => by rw [Finset.mem_singleton.mp hp]; exact hs)
    (fun g u hg => by obtain ⟨d, p, rfl, h⟩ := hO g u hg; rw [lv_cell]; exact h)

/-- Having signalled, a device may wait on its barrier, and on any of its semaphores that is no port. -/
theorem mayWait_bar (c : Dev nD) : (levAts L lv : sProp 𝕄) ⊢ MayWait (c : Thread nD τ) (.reg barS) () (debt c) :=
  mayWait_below c _ _ 1 (by rw [show ((c : Thread nD τ), SemLoc.reg barS) = cell c .bar from rfl, lv_cell]; exact le_rfl)
    fun g u h => by obtain ⟨d, s, rfl⟩ := debt_pos h; exact ⟨d, _, rfl, Nat.lt_succ_self 1⟩

theorem mayWait_low (c : Dev nD) (q : DmaSem sig) (hq : lv ((c : Thread nD τ), .dma q) () = 0) (O : CellTallies nD τ sig Unit)
    (hO : O = debt₀ c ∨ O = debt c ∨ O = 0) : (levAts L lv : sProp 𝕄) ⊢ MayWait (c : Thread nD τ) (.dma q) () O := by
  rcases hO with rfl | rfl | rfl
  · refine mayWait_below c _ _ 0 hq.le fun g u h => ?_
    obtain ⟨d, ⟨s, rfl⟩ | rfl⟩ := debt₀_pos h
    · exact ⟨d, _, rfl, Nat.succ_pos _⟩
    · exact ⟨d, _, rfl, Nat.succ_pos _⟩
  · refine mayWait_below c _ _ 0 hq.le fun g u h => ?_
    obtain ⟨d, s, rfl⟩ := debt_pos h
    exact ⟨d, _, rfl, Nat.succ_pos _⟩
  · rw [MayWait_zero]; iintro -; iempintro

/-- The chunk buffers' semaphores are no ports: they lie at level 0. -/
theorem lv_copy (c : Dev nD) (k : Fin 4) : lv ((c : Thread nD τ), .dma (copyS k)) () = 0 := by
  have h : (ports.find? fun p => portSem p = SemLoc.dma (copyS k)) = none := by revert k; decide
  unfold lv portOf; rw [if_pos rfl, h]; rfl

end Cert.ColMean

end
-- ==== Proof.Moves.lean ====
/-
  The exchange's steps, one lemma per kind: telling a device that its inbox slot is free, hearing the same from the
  three others, sending a row, taking a row that landed, getting back what a departed row was lent, and closing a
  port at the end. Each is the general rule of the rounds at this schedule.
-/
module

public import proofs.«01_k».proof.Proof.Protocol

@[expose] public section

noncomputable section

namespace Cert.ColMean

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (own : Dev nD → Row F) (K : Dev nD × Port → ℕ)

local notation "𝕄" => MT nD τ sig Unit (Elt F) ℕ UU ℕ

/-- No pending variants are in use. -/
abbrev 𝒱₀ : Variants := Variants.none

/-- The invariant of a port of `c`, under its name. -/
abbrev guard (c : Dev nD) (p : Port) : sProp 𝕄 := cellInv EX (plan own) (K (c, p)) (cell c p)

theorem pay_bar (c : Dev nD) (s : Fin 3) :
    pay own c .bar s = iprop(slotAny (F := F) (dst c s) s ∗ reached EX (cell (dst c s) (.land s)) 0) := rfl
theorem pay_land (c : Dev nD) (s k : Fin 3) : pay own c (.land s) k = owns (c : Thread nD τ) (slotM s) fullShare (own (src c s)) := rfl
theorem pay_gone (c : Dev nD) (s k : Fin 3) : pay own c (.gone s) k = owns (c : Thread nD τ) ownM (lent s) (own c) := rfl

/-- Telling `src c s` that slot `s` of `c` is free pays duty `s` of its barrier. -/
theorem tell (c n : Dev nD) (s : Fin 3) (hn : n = src c s) (O : CellTallies nD τ sig Unit) (W : Waits sig Unit)
    {α : Type} {Q : α → sProp 𝕄} {k : PUnit → Prog (TpuEff nD τ sig (Elt F) Λ₀ .tc) α} :
    iprop(guard own K (src c s) .bar ∗ owes (c : Thread nD τ) (O + tallyAt (cell (src c s) .bar) () 1) W
        ∗ dutyTok EX (cell (src c s) .bar) 0 s ∗ slotAny (F := F) c s ∗ reached EX (cell c (.land s)) 0 ∗ reached EX (cell (src c s) .bar) 0)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n : Thread nD τ) barS (1#32).toInt) k) Q) := by
  subst hn
  iintro ⟨#HI, HO, Ht, Hs, #Hl, #Hr⟩
  iapply (Rounds.wp_signal 𝒱₀ EX (plan own) (c : Thread nD τ) none (dst := (src c s : Thread nD τ)) (κ := K (src c s, .bar)) (sem := barS)
      (r := 0) (d := s) (by rw [plan_duties own (src c s) .bar]; exact Finset.mem_univ _) ((plan_amount own (src c s) .bar 0 s).trans rfl) () O rfl)
  isplitr; · iexact HI
  isplitl [HO]; · iexact HO
  isplitl [Ht]; · iexact Ht
  isplitl [Hs]
  · rw [show (plan own).payload ((src c s : Thread nD τ), SemLoc.reg barS) 0 s = pay own (src c s) .bar s from plan_payload own (src c s) .bar 0 s]
    rw [pay_bar, dst_src]
    isplitl [Hs]; · iexact Hs
    iexact Hl
  iexact Hr

/-- Hearing from the three others brings the three slots that `c` fills, and that their landings have begun. -/
theorem hear (c : Dev nD) (W : Waits sig Unit)
    {α : Type} {Q : α → sProp 𝕄} {k : PUnit → Prog (TpuEff nD τ sig (Elt F) Λ₀ .tc) α} :
    iprop(guard own K c .bar ∗ cred (tallyAt (cell c .bar) () 3) ∗ owes (c : Thread nD τ) (debt c) W ∗ levAts L lv ∗ atPos EX (cell c .bar) 0 ∅ 0)
      ⊢ iprop(((owes (c : Thread nD τ) (debt c) (insert (SemLoc.reg barS, ()) W) ∗ atPos EX (cell c .bar) (0 + 1) ∅ 0
              ∗ (slotAny (F := F) (dst c 0) 0 ∗ reached EX (cell (dst c 0) (.land 0)) 0)
              ∗ (slotAny (F := F) (dst c 1) 1 ∗ reached EX (cell (dst c 1) (.land 1)) 0)
              ∗ (slotAny (F := F) (dst c 2) 2 ∗ reached EX (cell (dst c 2) (.land 2)) 0))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS (3#32).toNat) k) Q) := by
  iintro ⟨#HI, Hc, HO, #Hlev, Hat⟩ Hk
  iapply (Rounds.wp_wait_rest_token 𝒱₀ EX (plan own) (c : Thread nD τ) none (κ := K (c, .bar))
      (wpE_semWait_eq 𝒱₀ (c : Thread nD τ) none Set.univ) (Set.mem_univ _) () (O := debt c) (W := W) (R := 0) (m := 0) (T := ∅)
      ((expect_bar own c).symm)) $$ [Hc HO Hat]
  · isplitr; · iexact HI
    isplitl [Hc]; · iexact Hc
    isplitl [HO]; · iexact HO
    isplitr; · iapply (mayWait_bar c); iexact Hlev
    iexact Hat
  iintro ⟨HO, Hat, -, Hp⟩
  ihave Hp := (Entails.of_eq (take_bar own c)) $$ Hp
  rw [pay_bar, pay_bar, pay_bar]
  iapply Hk
  isplitl [HO]; · iexact HO
  isplitl [Hat]; · iexact Hat
  iexact Hp

/-- Sending the own row to slot `s` of `dst c s`, from the share set aside for it. -/
theorem send (c n : Dev nD) (s : Fin 3) (hn : n = dst c s) (O : CellTallies nD τ sig Unit) (W : Waits sig Unit)
    {hsc : (slotM s).view.ref.isScScratch = false} {hsrc : ownM.view.WordExact} {hdst : (slotM s).view.WordExact}
    {hsem : DmaTarget.Typed .vmem (.dma (landS s)) (.remote (Dev.tc n : Thread nD τ) (slotM s) (.dma (goneS s)) hsc)}
    {α : Type} {Q : α → sProp 𝕄} {k : PUnit → Prog (TpuEff nD τ sig (Elt F) Λ₀ .tc) α} :
    iprop(guard own K c (.gone s) ∗ guard own K (dst c s) (.land s)
        ∗ owns (c : Thread nD τ) ownM (lent s) (own c) ∗ slotAny (F := F) (dst c s) s
        ∗ owes (c : Thread nD τ) (O + tallyAt (cell (dst c s) (.land s)) () N) W
        ∗ dutyTok EX (cell c (.gone s)) 0 0 ∗ reached EX (cell c (.gone s)) 0
        ∗ dutyTok EX (cell (dst c s) (.land s)) 0 0 ∗ reached EX (cell (dst c s) (.land s)) 0)
      ⊢ iprop(((cred (tallyAt (cell c (.gone s)) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma ownM (.remote (Dev.tc n : Thread nD τ) (slotM s) (.dma (goneS s)) hsc) (.dma (landS s)) hsrc hdst hsem) k) Q) := by
  subst hn
  unfold owns slotAny
  iintro ⟨#HI₁, #HI₂, ⟨%f, %hf, Hx⟩, ⟨%g, Hs⟩, HO, Ht₁, #Hr₁, Ht₂, #Hr₂⟩
  iapply (Rounds.wp_send_pointsTo 𝒱₀ EX (plan own) (c : Thread nD τ) none (κ₁ := K (c, .gone s)) (κ₂ := K (dst c s, .land s))
    (r₁ := 0) (r₂ := 0) (d₁ := 0) (d₂ := 0) (fs := f) (fd := g) (q := lent s) (c' := (dst c s : Thread nD τ)) (src := ownM) (dst := slotM s)
    (by rw [show (plan own).duties ((c : Thread nD τ), SemLoc.dma (goneS s)) 0 = dutiesOf (.gone s) from plan_duties own c (.gone s)]; exact Finset.mem_singleton_self _)
    (by rw [show (plan own).duties ((dst c s : Thread nD τ), SemLoc.dma (landS s)) 0 = dutiesOf (.land s) from plan_duties own (dst c s) (.land s)]; exact Finset.mem_singleton_self _)
    () () N rfl (plan_amount own c (.gone s) 0 0) (plan_amount own (dst c s) (.land s) 0 0) O rfl (W := W)
    (by
      rw [show (plan own).payload ((c : Thread nD τ), SemLoc.dma (goneS s)) 0 0 = pay own c (.gone s) 0 from plan_payload own c (.gone s) 0 0]
      rw [pay_gone]; unfold owns
      iintro H; iexists f
      isplitr; · ipureintro; exact hf
      iexact H)
    (by
      rw [show (plan own).payload ((dst c s : Thread nD τ), SemLoc.dma (landS s)) 0 0 = pay own (dst c s) (.land s) 0 from plan_payload own (dst c s) (.land s) 0 0]
      rw [pay_land, src_dst, hf]; unfold owns
      iintro H; iexists ((slotM s).view.write (Elt F) g (own c) Finset.univ)
      isplitr
      · ipureintro; exact View.read_write_univ _ _
      iexact H))
  isplitr; · iexact HI₁
  isplitr; · iexact HI₂
  isplitl [Hx]; · iexact Hx
  isplitl [Hs]; · iexact Hs
  isplitl [HO]; · iexact HO
  isplitl [Ht₁]; · iexact Ht₁
  isplitr; · iexact Hr₁
  isplitl [Ht₂]; · iexact Ht₂
  iexact Hr₂

/-- Taking the row that landed in slot `s`. -/
theorem taken (c : Dev nD) (s : Fin 3) (W : Waits sig Unit) {sp' : Space} {s' : Shape} {e' : EltTy}
    {src' : Memref sig .tc sp' s' e'} {κ' : Kind} {sp'' : Space} {s'' : Shape} {e'' : EltTy} {dst' : Memref sig κ' sp'' s'' e''}
    {hsrc : src'.view.WordExact} {hdst : dst'.view.WordExact} (hN : dst'.view.dmaCredit = N)
    {α : Type} {Q : α → sProp 𝕄} {k : PUnit → Prog (TpuEff nD τ sig (Elt F) Λ₀ .tc) α} :
    iprop(guard own K c (.land s) ∗ cred (tallyAt (cell c (.land s)) () N) ∗ owes (c : Thread nD τ) 0 W ∗ atPos EX (cell c (.land s)) 0 ∅ 0)
      ⊢ iprop(((owes (c : Thread nD τ) 0 (insert (SemLoc.dma (landS s), ()) W) ∗ atPos EX (cell c (.land s)) (0 + 1) ∅ 0
              ∗ owns (c : Thread nD τ) (slotM s) fullShare (own (src c s)))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (landS s) src' dst' hsrc hdst) k) Q) := by
  iintro ⟨#HI, Hc, HO, Hat⟩ Hk
  iapply (Rounds.wp_wait_rest_token 𝒱₀ EX (plan own) (c : Thread nD τ) none (κ := K (c, .land s))
      (fun X => by rw [wpE_waitDma2_eq 𝒱₀ (c : Thread nD τ) none Set.univ X, hN]) (Set.mem_univ _) () (O := 0) (W := W) (R := 0) (m := 0) (T := ∅)
      ((Nat.zero_add _).trans (expect_land own c s).symm)) $$ [Hc HO Hat]
  · isplitr; · iexact HI
    isplitl [Hc]; · iexact Hc
    isplitl [HO]; · iexact HO
    isplitr; · rw [MayWait_zero]; iempintro
    iexact Hat
  iintro ⟨HO, Hat, -, Hp⟩
  ihave Hp := (Entails.of_eq (take_land own c s)) $$ Hp
  iapply Hk
  isplitl [HO]; · iexact HO
  isplitl [Hat]; · iexact Hat
  iexact Hp

/-- Getting back the share of the own row that the copy for slot `s` was lent. -/
theorem returned (c : Dev nD) (s : Fin 3) (W : Waits sig Unit) {sp' : Space} {s' : Shape} {e' : EltTy}
    {src' : Memref sig .tc sp' s' e'} {κ' : Kind} {sp'' : Space} {s'' : Shape} {e'' : EltTy} {dst' : Memref sig κ' sp'' s'' e''}
    {hsrc : src'.view.WordExact} {hdst : dst'.view.WordExact} (hN : dst'.view.dmaCredit = N)
    {α : Type} {Q : α → sProp 𝕄} {k : PUnit → Prog (TpuEff nD τ sig (Elt F) Λ₀ .tc) α} :
    iprop(guard own K c (.gone s) ∗ cred (tallyAt (cell c (.gone s)) () N) ∗ owes (c : Thread nD τ) 0 W ∗ atPos EX (cell c (.gone s)) 0 ∅ 0)
      ⊢ iprop(((owes (c : Thread nD τ) 0 (insert (SemLoc.dma (goneS s), ()) W) ∗ atPos EX (cell c (.gone s)) (0 + 1) ∅ 0
              ∗ owns (c : Thread nD τ) ownM (lent s) (own c))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (goneS s) src' dst' hsrc hdst) k) Q) := by
  iintro ⟨#HI, Hc, HO, Hat⟩ Hk
  iapply (Rounds.wp_wait_rest_token 𝒱₀ EX (plan own) (c : Thread nD τ) none (κ := K (c, .gone s))
      (fun X => by rw [wpE_waitDma2_eq 𝒱₀ (c : Thread nD τ) none Set.univ X, hN]) (Set.mem_univ _) () (O := 0) (W := W) (R := 0) (m := 0) (T := ∅)
      ((Nat.zero_add _).trans (expect_gone own c s).symm)) $$ [Hc HO Hat]
  · isplitr; · iexact HI
    isplitl [Hc]; · iexact Hc
    isplitl [HO]; · iexact HO
    isplitr; · rw [MayWait_zero]; iempintro
    iexact Hat
  iintro ⟨HO, Hat, -, Hp⟩
  ihave Hp := (Entails.of_eq (take_gone own c s)) $$ Hp
  iapply Hk
  isplitl [HO]; · iexact HO
  isplitl [Hat]; · iexact Hat
  iexact Hp

/-- A port past its one round closes: its counter is back at zero. -/
theorem closed (c : Dev nD) (p : Port) :
    iprop(guard own K c p ∗ atPos EX (cell c p) (0 + 1) ∅ 0) ⊢ iprop(|={Set.univ}=> semVal (cell c p) 0 : sProp 𝕄) :=
  Rounds.cell_close EX (plan own) (Set.mem_univ (K (c, p))) (fun h => h) (R := 0 + 1) (plan_later own (cell c p))

end Cert.ColMean

end
-- ==== Proof.Sums.lean ====
/-
  What one device computes from its own block: eight chunks of the block pass through the four chunk buffers, and
  the sum of each chunk's rows is added up. Here: what a chunk buffer holds after copies into it and into the others,
  and the row of column sums as a function of the block alone.
-/
module

public import proofs.«01_k».proof.Proof.Mesh

@[expose] public section

noncomputable section

namespace Cert.ColMean

open Cert.KernelIdeal Cert.KernelIdeal.Gen

open Idealize.ShloMosaic
open Idealize.ShloMosaic.TcCoe

variable {F : FTy → Type} [FloatOps F]

/-- A table of rows, seen as a stack of one such table. -/
def stack {n : ℕ} {α : Type} (w : (⟨2, ![n, 1024]⟩ : Shape).Idx → α) (hq : (⟨3, ![1, n, 1024]⟩ : Shape).Squeezes ⟨2, ![n, 1024]⟩) :
    (⟨3, ![1, n, 1024]⟩ : Shape).Idx → α := fun j => w ((Shape.reshapeEquiv hq.numel_eq).symm j)

section Buffer

variable {s' : Shape} {k k' : ℕ} {sz sz' : Fin 3 → ℕ} {f : bufM.view.ty.Contents (Elt F)}

/-- A chunk buffer (or the top part of one), loaded after a copy into exactly that part, is the copied table. -/
theorem load_same {n : ℕ} {hr : ∀ a, (![k, 0, 0] : Fin 3 → ℕ) a + (![1, n, 1024] : Fin 3 → ℕ) a ≤ S4x576x1024.size a}
    {hu : ∀ a, (Rect.unit (s := S4x576x1024) ![k, 0, 0] ![1, n, 1024] hr).stride a = 1}
    {hq : (⟨3, ![1, n, 1024]⟩ : Shape).Squeezes ⟨2, ![n, 1024]⟩} (w : (⟨2, ![n, 1024]⟩ : Shape).Idx → Elt F .f32) :
    bufM.view.readAt (Elt F) (Rect.unit (s := S4x576x1024) ![k, 0, 0] ![1, n, 1024] hr).toLoadRect
      (((bufM.slice (Rect.unit (s := S4x576x1024) ![k, 0, 0] ![1, n, 1024] hr) hu).squeeze ⟨2, ![n, 1024]⟩ hq).view.write (Elt F) f w Finset.univ)
      = stack w hq := by
  rw [View.readAt_rect]
  funext j
  obtain ⟨x, rfl⟩ := (Shape.reshapeEquiv hq.numel_eq).surjective j
  unfold stack
  rw [Equiv.symm_apply_apply]
  exact View.read_write_of_mem (v := (bufM.view.slice (Rect.unit (s := S4x576x1024) ![k, 0, 0] ![1, n, 1024] hr)).reshape _ hq.numel_eq)
    f w (Finset.mem_univ x)

/-- A copy into another chunk buffer changes nothing in this one. -/
theorem load_other {hr : ∀ a, (![k, 0, 0] : Fin 3 → ℕ) a + sz a ≤ S4x576x1024.size a}
    {hr' : ∀ a, (![k', 0, 0] : Fin 3 → ℕ) a + sz' a ≤ S4x576x1024.size a}
    {hu' : ∀ a, (Rect.unit (s := S4x576x1024) ![k', 0, 0] sz' hr').stride a = 1}
    {hq : (Rect.unit (s := S4x576x1024) ![k', 0, 0] sz' hr').shape.Squeezes s'} (w : s'.Idx → Elt F .f32)
    (hk : k ≠ k') (h1 : sz 0 = 1) (h1' : sz' 0 = 1) :
    bufM.view.readAt (Elt F) (Rect.unit (s := S4x576x1024) ![k, 0, 0] sz hr).toLoadRect
      (((bufM.slice (Rect.unit (s := S4x576x1024) ![k', 0, 0] sz' hr') hu').squeeze s' hq).view.write (Elt F) f w Finset.univ)
      = bufM.view.readAt (Elt F) (Rect.unit (s := S4x576x1024) ![k, 0, 0] sz hr).toLoadRect f := by
  refine View.readAt_congr fun i hi => View.write_of_not_mem _ _ _ fun hm => ?_
  have hi' : i ∈ ((View.whole cc0_scratch0).slice (Rect.unit (s := S4x576x1024) ![k, 0, 0] sz hr)).set := by
    rw [View.set_slice]; exact hi
  have hm' : i ∈ ((View.whole cc0_scratch0).slice (Rect.unit (s := S4x576x1024) ![k', 0, 0] sz' hr')).set := by
    rw [View.setOn_univ, View.set_reshape] at hm; exact hm
  rw [View.set_slice_whole] at hi' hm'
  refine Finset.disjoint_left.mp (Rect.unit_disjoint (inb := hr) (inb' := hr') 0 ?_) hi' hm'
  rw [h1, h1']
  show k + 1 ≤ k' ∨ k' + 1 ≤ k
  omega

end Buffer

/-- The rows `o ..` of the device's block, as the copy reads them. -/
abbrev rows (n o : ℕ) (h : ∀ a, (![o, 0] : Fin 2 → ℕ) a + (![n, 1024] : Fin 2 → ℕ) a ≤ S4096x1024.size a)
    (X : xM.view.ty.Contents (Elt F)) : (⟨2, ![n, 1024]⟩ : Shape).Idx → Elt F .f32 :=
  fun j => X ((Rect.unit (s := S4096x1024) ![o, 0] ![n, 1024] h).emb j)

/-- The chunk of 576 rows from `o` on, as a chunk buffer holds it. -/
def chunk (o : ℕ) (h : ∀ a, (![o, 0] : Fin 2 → ℕ) a + (![576, 1024] : Fin 2 → ℕ) a ≤ S4096x1024.size a)
    (X : xM.view.ty.Contents (Elt F)) : Vec F S1x576x1024 .f32 := stack (rows 576 o h X) squeezes_S1x576x1024_S576x1024
/-- The last chunk, of 64 rows. -/
def chunkLast (X : xM.view.ty.Contents (Elt F)) : Vec F S1x64x1024 .f32 :=
  stack (rows 64 4032 inb_S4096x1024_S64x1024_4032_0 X) squeezes_S1x64x1024_S64x1024

/-- The row of column sums of a block, in the kernel's own order. -/
def ownRow (X : xM.view.ty.Contents (Elt F)) : FVec F S1x1024 .f32 :=
  k0_pay4 (k0_pay3 (k0_pay2 (k0_pay1 (chunk 0 inb_S4096x1024_S576x1024_0_0 X))
      (chunk 576 inb_S4096x1024_S576x1024_576_0 X) (chunk 1152 inb_S4096x1024_S576x1024_1152_0 X))
      (chunk 1728 inb_S4096x1024_S576x1024_1728_0 X) (chunk 2304 inb_S4096x1024_S576x1024_2304_0 X))
      (chunk 2880 inb_S4096x1024_S576x1024_2880_0 X) (chunk 3456 inb_S4096x1024_S576x1024_3456_0 X) (chunkLast X)

end Cert.ColMean

end
-- ==== Proof.Split.lean ====
/-
  How the buffers of the exchange are divided and put together again: the row of sums is lent in three shares,
  the inbox is given away slot by slot; and what the stores leave and the loads of an inbox slot read.
-/
module

public import proofs.«01_k».proof.Proof.Moves
public import Idealize.ShloMosaic.Lib.Ring
public import proofs.«01_k».proof.Proof.Sums

@[expose] public section

noncomputable section

namespace Cert.ColMean

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (own : Dev nD → Row F)

local notation "𝕄" => MT nD τ sig Unit (Elt F) ℕ UU ℕ

/-! ## The row of sums, in shares -/

/-- Holding the row buffer at known contents is holding its cells at them. -/
theorem own_iff (c : Dev nD) (q : PosShare TreeShare) (X : Row F) :
    (owns (c : Thread nD τ) ownM q X : sProp 𝕄) ⊣⊢ (ownM.view.loc (c : Thread nD τ) ↦[Finset.univ]{q} X) := by
  unfold owns
  simp only [Memref.view_whole, View.read_whole, View.set_whole]
  constructor
  · iintro ⟨%f, %hf, H⟩; subst hf; iexact H
  · iintro H; iexists X; isplitr; · ipureintro; rfl
    iexact H

/-- A share is its left half and its right half. -/
theorem half_op (q : PosShare TreeShare) : q ∈ PCS.op q.left q.right := by
  rw [PosShare.left_op_right]; exact Part.mem_some _

/-- The first element's position. -/
theorem at_zero : (![0, 0] : Fin 2 → Nat) = fun _ => 0 := funext fun a => by fin_cases a <;> rfl

/-- What one store of a whole row leaves in a row buffer. -/
theorem own_stored (R : ownM.view.ty.Contents (Elt F)) (w : Row F) :
    ownM.view.writes (Elt F) R [⟨Rect.unit (s := S1x1024) ![0, 0] S1x1024.size inb_S1x1024_S1x1024_0_0, w⟩] = w :=
  (View.writes_singleton ..).trans (Memref.write_access_unit_zero_univ (Elt F) cc0_scratch1 at_zero _ R w)
theorem out_stored (Y : outM.view.ty.Contents (Elt F)) (w : Row F) :
    outM.view.writes (Elt F) Y [⟨Rect.unit (s := S1x1024) ![0, 0] S1x1024.size inb_S1x1024_S1x1024_0_0, w⟩] = w :=
  (View.writes_singleton ..).trans (Memref.write_access_unit_zero_univ (Elt F) cc0_stg0_0 at_zero _ Y w)

/-- The row of sums, once stored, is held in the three shares that the copies borrow. -/
theorem own_lend (c : Dev nD) (R : Buf (Elt F) (ownM.view.loc (c : Thread nD τ))) (w : Row F) (hw : w = own c) :
    (ownM.view.loc (c : Thread nD τ) ↦[Finset.univ]{fullShare}
        ownM.view.writes (Elt F) R [⟨Rect.unit (s := S1x1024) ![0, 0] S1x1024.size inb_S1x1024_S1x1024_0_0, w⟩] : sProp 𝕄)
      ⊢ iprop(owns (c : Thread nD τ) ownM (lent 0) (own c) ∗ owns (c : Thread nD τ) ownM (lent 1) (own c)
          ∗ owns (c : Thread nD τ) ownM (lent 2) (own c)) := by
  rw [own_stored R w, hw]
  iintro H
  ihave H := (pointsTo_share (half_op fullShare)).1 $$ H
  icases H with ⟨H0, H⟩
  ihave H := (pointsTo_share (half_op fullShare.right)).1 $$ H
  icases H with ⟨H1, H2⟩
  isplitl [H0]; · iapply (own_iff c (lent 0) (own c)).2; iexact H0
  isplitl [H1]; · iapply (own_iff c (lent 1) (own c)).2; iexact H1
  iapply (own_iff c (lent 2) (own c)).2; iexact H2

/-- The three shares, given back, are the whole row. -/
theorem own_back (c : Dev nD) :
    iprop(owns (c : Thread nD τ) ownM (lent 0) (own c) ∗ owns (c : Thread nD τ) ownM (lent 1) (own c)
        ∗ owns (c : Thread nD τ) ownM (lent 2) (own c))
      ⊢ (ownM.view.loc (c : Thread nD τ) ↦[Finset.univ]{fullShare} own c : sProp 𝕄) := by
  iintro ⟨H0, H1, H2⟩
  ihave H0 := (own_iff c (lent 0) (own c)).1 $$ H0
  ihave H1 := (own_iff c (lent 1) (own c)).1 $$ H1
  ihave H2 := (own_iff c (lent 2) (own c)).1 $$ H2
  iapply (pointsTo_share (half_op fullShare)).2
  isplitl [H0]; · iexact H0
  iapply (pointsTo_share (half_op fullShare.right)).2
  isplitl [H1]; · iexact H1
  iexact H2

/-! ## The rounds of the landings and of the departures -/

/-- What a landing's round brings: slot `s`, holding its sender's row. -/
theorem landed (c : Dev nD) (s : Fin 3) :
    bigSep ((plan own).duties (cell c (.land s)) 0) (fun k => (plan own).payload (cell c (.land s)) 0 k)
      ⊢ iprop(∃ f : Buf (Elt F) ((slotM s).view.loc (c : Thread nD τ)), ⌜(slotM s).view.read (Elt F) f = own (src c s)⌝
          ∗ ((slotM s).view.loc (c : Thread nD τ) ↦[(slotM s).view.set]{fullShare} f)) := by
  rw [← Finset.sdiff_empty (s := (plan own).duties (cell c (.land s)) 0), take_land]
  exact .rfl

/-- What a departure's round brings: the share of the row that its copy had borrowed. -/
theorem gone_back (c : Dev nD) (s : Fin 3) :
    bigSep ((plan own).duties (cell c (.gone s)) 0) (fun k => (plan own).payload (cell c (.gone s)) 0 k)
      ⊢ owns (c : Thread nD τ) ownM (lent s) (own c) := by
  rw [← Finset.sdiff_empty (s := (plan own).duties (cell c (.gone s)) 0), take_gone]

/-! ## The inbox, in slots -/

/-- The cells of slot `s`. -/
theorem slot_set (s : Fin 3) : (slotM s).view.set = (slotR s).set :=   by
  rw [Memref.set_view_squeeze]; exact View.set_slice_whole cc0_scratch2 (slotR s)

/-- Different slots have no cell in common. -/
theorem slots_apart (s s' : Fin 3) (h : s ≠ s') : Disjoint (slotM s).view.set (slotM s').view.set := by
  rw [slot_set, slot_set]
  refine Rect.unit_disjoint 0 ?_
  show s.val + 1 ≤ s'.val ∨ s'.val + 1 ≤ s.val
  have := fun e => h (Fin.ext e)
  omega

/-- The slots are all of the inbox. -/
theorem slots_cover : (Finset.univ : Finset (Fin 3)).biUnion (β := boxM.view.ty.Idx) (fun s => (slotM s).view.set) = Finset.univ := by
  refine Finset.eq_univ_iff_forall.mpr fun i => Finset.mem_biUnion.mpr ?_
  obtain ⟨s, hs⟩ : ∃ s : Fin 3, s.val = (i (0 : Fin 3)).val := ⟨⟨_, (i (0 : Fin 3)).isLt⟩, rfl⟩
  refine ⟨s, Finset.mem_univ _, (slot_set s).symm ▸ Rect.mem_set_unit.mpr fun a => ?_⟩
  fin_cases a
  · exact ⟨hs.le, by show (i (0 : Fin 3)).val < s.val + 1; omega⟩
  · exact ⟨Nat.zero_le _, (i (1 : Fin 3)).isLt⟩
  · exact ⟨Nat.zero_le _, (i (2 : Fin 3)).isLt⟩

/-- The inbox is given away slot by slot, -/
theorem box_split (c : Dev nD) (f : Buf (Elt F) (boxM.view.loc (c : Thread nD τ))) :
    (boxM.view.loc (c : Thread nD τ) ↦[Finset.univ]{fullShare} f : sProp 𝕄)
      ⊢ iprop(slotAny (F := F) c 0 ∗ slotAny (F := F) c 1 ∗ slotAny (F := F) c 2) := by
  rw [Ring.pointsTo_blocks (ℓ := boxM.view.loc (c : Thread nD τ)) (fun s : Fin 3 => (slotM s).view.set) slots_apart slots_cover f, bigSep_three]
  unfold slotAny
  iintro ⟨H0, H1, H2⟩
  isplitl [H0]; · iexists f; iexact H0
  isplitl [H1]; · iexists f; iexact H1
  iexists f; iexact H2

/-- and is whole again when the slots are back. -/
theorem box_join (c : Dev nD) (f : Buf (Elt F) (boxM.view.loc (c : Thread nD τ))) :
    iprop(slotAny (F := F) c 0 ∗ slotAny (F := F) c 1 ∗ slotAny (F := F) c 2)
      ⊢ (iprop(∃ g : Buf (Elt F) (boxM.view.loc (c : Thread nD τ)), boxM.view.loc (c : Thread nD τ) ↦[Finset.univ]{fullShare} g) : sProp 𝕄) := by
  have h := Ring.pointsTo_blocks_join_exists (U := UU) (Name := ℕ) (Lvl := ℕ) (Ix := Unit) (ℓ := boxM.view.loc (c : Thread nD τ)) (Val := Elt F)
    (fun s : Fin 3 => (slotM s).view.set) slots_apart slots_cover (q := fullShare) f
  rw [bigSep_three] at h
  exact h

/-- A load of slot `s` reads the row that landed there. -/
theorem load_slot (s : Fin 3) (f : boxM.view.ty.Contents (Elt F)) (w : Row F) (hf : (slotM s).view.read (Elt F) f = w) :
    boxM.view.readAt (Elt F) (slotR s).toLoadRect f = stack w squeezes_S1x1x1024_S1x1024 := by
  subst hf
  rw [View.readAt_rect]
  funext j
  obtain ⟨x, rfl⟩ := (Shape.reshapeEquiv (squeezes_S1x1x1024_S1x1024).numel_eq).surjective j
  unfold stack
  rw [Equiv.symm_apply_apply]
  rfl

end Cert.ColMean

end
-- ==== Proof.Body.lean ====
/-
  The run of the body on one device: it signals its sources, waits for its own three signals, sums its block chunk
  by chunk, sends the row of sums to three slots, and adds up the rows that have landed in its own three.
-/
module

public import proofs.«01_k».proof.Proof.Split
public import proofs.«01_k».proof.Proof.Gen.KernelIdeal.Frame
public import Idealize.ShloMosaic.Lib.Pointwise.Reshape

@[expose] public section

noncomputable section

namespace Cert.ColMean

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (own : Dev nD → Row F) (K : Dev nD × Port → ℕ)

local notation "𝕄" => MT nD τ sig Unit (Elt F) ℕ UU ℕ

/-- The four counters of the chunk buffers, at zero. -/
def idle (c : Dev nD) : sProp 𝕄 :=
  iprop(semVal ((c : Thread nD τ), .dma (copyS 0)) 0 ∗ semVal ((c : Thread nD τ), .dma (copyS 1)) 0
    ∗ semVal ((c : Thread nD τ), .dma (copyS 2)) 0 ∗ semVal ((c : Thread nD τ), .dma (copyS 3)) 0)

/-- The invariants that the body of device `c` opens: its own seven ports', and those of the ports it pays into. -/
def guards (c : Dev nD) : sProp 𝕄 :=
  iprop((guard own K c .bar ∗ guard own K c (.land 0) ∗ guard own K c (.land 1) ∗ guard own K c (.land 2)
      ∗ guard own K c (.gone 0) ∗ guard own K c (.gone 1) ∗ guard own K c (.gone 2))
    ∗ (guard own K (src c 0) .bar ∗ guard own K (src c 1) .bar ∗ guard own K (src c 2) .bar)
    ∗ (guard own K (dst c 0) (.land 0) ∗ guard own K (dst c 1) (.land 1) ∗ guard own K (dst c 2) (.land 2)))

/-- The marks that the ports concerned stand at round 0 from the start. -/
def begun (c : Dev nD) : sProp 𝕄 :=
  iprop((reached EX (cell c (.land 0)) 0 ∗ reached EX (cell c (.land 1)) 0 ∗ reached EX (cell c (.land 2)) 0)
    ∗ (reached EX (cell c (.gone 0)) 0 ∗ reached EX (cell c (.gone 1)) 0 ∗ reached EX (cell c (.gone 2)) 0)
    ∗ (reached EX (cell (src c 0) .bar) 0 ∗ reached EX (cell (src c 1) .bar) 0 ∗ reached EX (cell (src c 2) .bar) 0))

/-- Where device `c` stands at its ports. -/
def stand (c : Dev nD) (r : ℕ) : sProp 𝕄 :=
  iprop(atPos EX (cell c .bar) r ∅ 0 ∗ atPos EX (cell c (.land 0)) r ∅ 0 ∗ atPos EX (cell c (.land 1)) r ∅ 0 ∗ atPos EX (cell c (.land 2)) r ∅ 0
    ∗ atPos EX (cell c (.gone 0)) r ∅ 0 ∗ atPos EX (cell c (.gone 1)) r ∅ 0 ∗ atPos EX (cell c (.gone 2)) r ∅ 0)

/-- The duties that device `c` pays for slot `s`: the signal, the landing, the departure. -/
def dues (c : Dev nD) (s : Fin 3) : sProp 𝕄 :=
  iprop(dutyTok EX (cell (src c s) .bar) 0 s ∗ dutyTok EX (cell (dst c s) (.land s)) 0 0 ∗ dutyTok EX (cell c (.gone s)) 0 0)

/-- The credits it waits with. -/
def credits (c : Dev nD) : sProp 𝕄 :=
  iprop(cred (tallyAt (cell c .bar) () 3) ∗ cred (tallyAt (cell c (.land 0)) () N) ∗ cred (tallyAt (cell c (.land 1)) () N) ∗ cred (tallyAt (cell c (.land 2)) () N))

/-- Its seven ports, back at zero. -/
def shut (c : Dev nD) : sProp 𝕄 :=
  iprop(semVal (cell c .bar) 0 ∗ semVal (cell c (.land 0)) 0 ∗ semVal (cell c (.land 1)) 0 ∗ semVal (cell c (.land 2)) 0
    ∗ semVal (cell c (.gone 0)) 0 ∗ semVal (cell c (.gone 1)) 0 ∗ semVal (cell c (.gone 2)) 0)

/-- The row of means that device `c` stores, from its own row of sums and the three that land in its slots. -/
def outRow (c : Dev nD) : Row F :=
  k0_pay7 (k0_pay6 (own c) (stack (own (src c 0)) squeezes_S1x1x1024_S1x1024) (stack (own (src c 1)) squeezes_S1x1x1024_S1x1024))
    (stack (own (src c 2)) squeezes_S1x1x1024_S1x1024)

set_option maxHeartbeats 4000000 in
/-- The body, begun with its ports at round 0, ends with every port closed at zero, its block as it was, and the row of
    means stored. -/
theorem body_run (c : Dev nD) (X : Buf (Elt F) (xM.view.loc (c : Thread nD τ)))
    (B : Buf (Elt F) (bufM.view.loc (c : Thread nD τ))) (R : Buf (Elt F) (ownM.view.loc (c : Thread nD τ)))
    (Y : Buf (Elt F) (outM.view.loc (c : Thread nD τ))) (W) (Kt : PUnit → sProp 𝕄) (hown : own c = ownRow X)
    (hmw : ∀ q : DmaSem sig, lv ((c : Thread nD τ), .dma q) () = 0 → (levAts L lv ⊢ (MayWait (c : Thread nD τ) (.dma q) () (debt c) : sProp 𝕄))) :
    iprop(((guards own K c ∗ begun (F := F) c ∗ stand (F := F) c 0 ∗ (dues (F := F) c 0 ∗ dues (F := F) c 1 ∗ dues (F := F) c 2) ∗ credits (F := F) c ∗ levAts L lv)
         ∗ (slotAny (F := F) c 0 ∗ slotAny (F := F) c 1 ∗ slotAny (F := F) c 2)
         ∗ (xM.view.loc (c : Thread nD τ) ↦[Finset.univ]{fullShare} X) ∗ (bufM.view.loc (c : Thread nD τ) ↦[Finset.univ]{fullShare} B)
         ∗ (ownM.view.loc (c : Thread nD τ) ↦[Finset.univ]{fullShare} R) ∗ (outM.view.loc (c : Thread nD τ) ↦[Finset.univ]{fullShare} Y)
         ∗ idle (F := F) c ∗ owes (c : Thread nD τ) (debt₀ c) W)
        ∗ ((shut (F := F) c ∗ (xM.view.loc (c : Thread nD τ) ↦[Finset.univ]{fullShare} X)
            ∗ (∃ B' : Buf (Elt F) (bufM.view.loc (c : Thread nD τ)), bufM.view.loc (c : Thread nD τ) ↦[Finset.univ]{fullShare} B')
            ∗ (∃ R' : Buf (Elt F) (ownM.view.loc (c : Thread nD τ)), ownM.view.loc (c : Thread nD τ) ↦[Finset.univ]{fullShare} R')
            ∗ (∃ Z : Buf (Elt F) (boxM.view.loc (c : Thread nD τ)), boxM.view.loc (c : Thread nD τ) ↦[Finset.univ]{fullShare} Z)
            ∗ (outM.view.loc (c : Thread nD τ) ↦[Finset.univ]{fullShare} outRow own c)
            ∗ idle (F := F) c ∗ (∃ W', owes (c : Thread nD τ) 0 W')) -∗ Kt ⟨⟩))
      ⊢ wp frame (wpE (defs₀ (F := F)) 𝒱₀ c none) Set.univ
          (cc0_body xM (Memref.isWhole_whole _) outM (Memref.isWhole_whole _) bufM (Memref.isWhole_whole _) ownM (Memref.isWhole_whole _)
            boxM (Memref.isWhole_whole _) cc0_scratch3 cc0_scratch4 cc0_scratch5) Kt := by
  rw [cc0_body_eq_skeleton]; unfold cc0_body_skel
  unfold guards begun stand dues credits idle
  iintro ⟨⟨⟨⟨⟨#Ib, #Il0, #Il1, #Il2, #Ig0, #Ig1, #Ig2⟩, ⟨#Is0, #Is1, #Is2⟩, ⟨#Id0, #Id1, #Id2⟩⟩,
    ⟨⟨#Rl0, #Rl1, #Rl2⟩, ⟨#Rg0, #Rg1, #Rg2⟩, ⟨#Rs0, #Rs1, #Rs2⟩⟩,
    ⟨Ab, Al0, Al1, Al2, Ag0, Ag1, Ag2⟩, ⟨⟨Ts0, Tl0, Tg0⟩, ⟨Ts1, Tl1, Tg1⟩, ⟨Ts2, Tl2, Tg2⟩⟩, ⟨Cb, Cl0, Cl1, Cl2⟩, #Hlev⟩,
    ⟨Hs0, Hs1, Hs2⟩, HX, HB, HR, HY, ⟨HC0, HC1, HC2, HC3⟩, HO⟩, Hk⟩
  set_option sl_exec.dmaWindow true in
  sl_exec
  unfold debt₀
  iapply (tell own K c _ 0 (peer1 c) _ W) $$ [HO Ts0 Hs0]
  · isplitr; · iexact Is0
    isplitl [HO]; · iexact HO
    isplitl [Ts0]; · iexact Ts0
    isplitl [Hs0]; · iexact Hs0
    isplitr; · iexact Rl0
    iexact Rs0
  iintro HO
  sl_exec
  iapply (tell own K c _ 1 (peer2 c) _ W) $$ [HO Ts1 Hs1]
  · isplitr; · iexact Is1
    isplitl [HO]; · iexact HO
    isplitl [Ts1]; · iexact Ts1
    isplitl [Hs1]; · iexact Hs1
    isplitr; · iexact Rl1
    iexact Rs1
  iintro HO
  sl_exec
  iapply (tell own K c _ 2 (peer3 c) _ W) $$ [HO Ts2 Hs2]
  · isplitr; · iexact Is2
    isplitl [HO]; · iexact HO
    isplitl [Ts2]; · iexact Ts2
    isplitl [Hs2]; · iexact Hs2
    isplitr; · iexact Rl2
    iexact Rs2
  iintro HO
  sl_exec
  iapply (hear own K c W) $$ [Cb HO Ab]
  · isplitr; · iexact Ib
    isplitl [Cb]; · iexact Cb
    isplitl [HO]; · iexact HO
    isplitr; · iexact Hlev
    iexact Ab
  iintro ⟨HO, Ab, ⟨Hd0, #Rd0⟩, ⟨Hd1, #Rd1⟩, ⟨Hd2, #Rd2⟩⟩
  set_option sl_exec.dmaWindow true in
  sl_exec
  have hr : k0_pay4 (body_run.sl.r_2 c X B) (body_run.sl.v139 c X B) (body_run.sl.v149 c X B) (body_run.sl.v159 c X B) = own c := by
    rw [hown]
    have ev69 : body_run.sl.v69 c X B = chunk 0 inb_S4096x1024_S576x1024_0_0 X := by
      unfold body_run.sl.v69
      repeat (first | exact load_same _ | refine (load_other _ (by decide) rfl rfl).trans ?_)
    have ev84 : body_run.sl.v84 c X B = chunk 576 inb_S4096x1024_S576x1024_576_0 X := by
      unfold body_run.sl.v84
      repeat (first | exact load_same _ | refine (load_other _ (by decide) rfl rfl).trans ?_)
    have ev99 : body_run.sl.v99 c X B = chunk 1152 inb_S4096x1024_S576x1024_1152_0 X := by
      unfold body_run.sl.v99
      repeat (first | exact load_same _ | refine (load_other _ (by decide) rfl rfl).trans ?_)
    have ev114 : body_run.sl.v114 c X B = chunk 1728 inb_S4096x1024_S576x1024_1728_0 X := by
      unfold body_run.sl.v114
      repeat (first | exact load_same _ | refine (load_other _ (by decide) rfl rfl).trans ?_)
    have ev129 : body_run.sl.v129 c X B = chunk 2304 inb_S4096x1024_S576x1024_2304_0 X := by
      unfold body_run.sl.v129
      repeat (first | exact load_same _ | refine (load_other _ (by decide) rfl rfl).trans ?_)
    have ev139 : body_run.sl.v139 c X B = chunk 2880 inb_S4096x1024_S576x1024_2880_0 X := by
      unfold body_run.sl.v139
      repeat (first | exact load_same _ | refine (load_other _ (by decide) rfl rfl).trans ?_)
    have ev149 : body_run.sl.v149 c X B = chunk 3456 inb_S4096x1024_S576x1024_3456_0 X := by
      unfold body_run.sl.v149
      repeat (first | exact load_same _ | refine (load_other _ (by decide) rfl rfl).trans ?_)
    have ev159 : body_run.sl.v159 c X B = chunkLast X := by
      unfold body_run.sl.v159
      repeat (first | exact load_same _ | refine (load_other _ (by decide) rfl rfl).trans ?_)
    unfold ownRow body_run.sl.r_2 body_run.sl.r_1 body_run.sl.r
    rw [ev69, ev84, ev99, ev114, ev129, ev139, ev149, ev159]
  have hw : k0_pay5 (body_run.sl.r_2 c X B) (body_run.sl.v139 c X B) (body_run.sl.v149 c X B) (body_run.sl.v159 c X B) = own c := (shapeCast_id _ _).trans hr
  ihave Ho := (own_lend own c R _ hw) $$ HR
  icases Ho with ⟨Ho0, Ho1, Ho2⟩
  unfold debt
  iapply (send own K c _ 1 (peer4 c) _ _) $$ [Ho1 Hd1 HO Tg1 Tl1]
  · isplitr; · iexact Ig1
    isplitr; · iexact Id1
    isplitl [Ho1]; · iexact Ho1
    isplitl [Hd1]; · iexact Hd1
    isplitl [HO]; · iexact HO
    isplitl [Tg1]; · iexact Tg1
    isplitr; · iexact Rg1
    isplitl [Tl1]; · iexact Tl1
    iexact Rd1
  iintro ⟨Cg1, HO⟩
  sl_exec
  iapply (send own K c _ 2 (peer5 c) _ _) $$ [Ho2 Hd2 HO Tg2 Tl2]
  · isplitr; · iexact Ig2
    isplitr; · iexact Id2
    isplitl [Ho2]; · iexact Ho2
    isplitl [Hd2]; · iexact Hd2
    isplitl [HO]; · iexact HO
    isplitl [Tg2]; · iexact Tg2
    isplitr; · iexact Rg2
    isplitl [Tl2]; · iexact Tl2
    iexact Rd2
  iintro ⟨Cg2, HO⟩
  sl_exec
  rw [← zero_add (tallyAt (cell (dst c 0) (.land 0)) () N)]
  iapply (send own K c _ 0 (peer6 c) _ _) $$ [Ho0 Hd0 HO Tg0 Tl0]
  · isplitr; · iexact Ig0
    isplitr; · iexact Id0
    isplitl [Ho0]; · iexact Ho0
    isplitl [Hd0]; · iexact Hd0
    isplitl [HO]; · iexact HO
    isplitl [Tg0]; · iexact Tg0
    isplitr; · iexact Rg0
    isplitl [Tl0]; · iexact Tl0
    iexact Rd0
  iintro ⟨Cg0, HO⟩
  sl_exec
  ihave Hb0 := (landed own c 0) $$ Al0_pay1
  icases Hb0 with ⟨%f0, %hf0, Hb0⟩
  sl_exec
  ihave Hb1 := (landed own c 1) $$ Al1_pay1
  icases Hb1 with ⟨%f1, %hf1, Hb1⟩
  sl_exec
  ihave Hb2 := (landed own c 2) $$ Al2_pay1
  icases Hb2 with ⟨%f2, %hf2, Hb2⟩
  sl_exec
  ihave Hg0 := (gone_back own c 0) $$ Ag0_pay1
  ihave Hg1 := (gone_back own c 1) $$ Ag1_pay1
  ihave Hg2 := (gone_back own c 2) $$ Ag2_pay1
  rw [wp_ret]
  imod (closed own K c .bar) $$ [Ab] with Zb
  · isplitr; · iexact Ib
    iexact Ab
  imod (closed own K c (.land 0)) $$ [Al0] with Zl0
  · isplitr; · iexact Il0
    iexact Al0
  imod (closed own K c (.land 1)) $$ [Al1] with Zl1
  · isplitr; · iexact Il1
    iexact Al1
  imod (closed own K c (.land 2)) $$ [Al2] with Zl2
  · isplitr; · iexact Il2
    iexact Al2
  imod (closed own K c (.gone 0)) $$ [Ag0] with Zg0
  · isplitr; · iexact Ig0
    iexact Ag0
  imod (closed own K c (.gone 1)) $$ [Ag1] with Zg1
  · isplitr; · iexact Ig1
    iexact Ag1
  imod (closed own K c (.gone 2)) $$ [Ag2] with Zg2
  · isplitr; · iexact Ig2
    iexact Ag2
  imodintro
  have hY : k0_pay7 (body_run.sl.r_4 c X B f0 f1) (View.readAt (Elt F) boxM.view (slotR 2).toLoadRect f2) = outRow own c := by
    unfold outRow body_run.sl.r_4
    rw [load_slot 2 f2 _ hf2, ← load_slot 0 f0 _ hf0, ← load_slot 1 f1 _ hf1, ← hr]
    rfl
  iapply Hk
  isplitl [Zb Zl0 Zl1 Zl2 Zg0 Zg1 Zg2]
  · unfold shut; iframe
  isplitl [HX]; · iexact HX
  isplitl [HB]; · iexists _; iexact HB
  isplitl [Hg0 Hg1 Hg2]
  · iexists (own c); iapply (own_back own c); iframe
  isplitl [Hb0 Hb1 Hb2]
  · iapply (box_join c f0)
    unfold slotAny
    isplitl [Hb0]; · iexists f0; iexact Hb0
    isplitl [Hb1]; · iexists f1; iexact Hb1
    iexists f2; iexact Hb2
  isplitl [HY]
  · rw [out_stored Y, ← hY]; iexact HY
  isplitl [HC0 HC1 HC2 HC3]
  · isplitl [HC0]; · iexact HC0
    isplitl [HC1]; · iexact HC1
    isplitl [HC2]; · iexact HC2
    iexact HC3
  iexists _; iexact HO

end Cert.ColMean

end
-- ==== Proof.Deal.lean ====
/-
  The launch of the exchange. The ports of all devices are opened at round 0; each port's duties are dealt to the
  devices that pay them; the devices' debts to a port add up to what its owner waits for.
-/
module

public import proofs.«01_k».proof.Proof.Body

@[expose] public section

noncomputable section

namespace Cert.ColMean

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (own : Dev nD → Row F)

local notation "𝕄" => MT nD τ sig Unit (Elt F) ℕ UU ℕ

/-! ## The ports and their duties, listed -/

theorem port_inj : Function.Injective (fun cp : Dev nD × Port => cell cp.1 cp.2) := fun a b h =>
  Prod.ext (cell_eq_iff.mp h).1 (cell_eq_iff.mp h).2
/-- The cells of all ports of all devices. -/
def allPorts : Finset (GSem nD τ sig) := Finset.univ.map ⟨fun cp : Dev nD × Port => cell cp.1 cp.2, port_inj⟩

/-- The duties as minted: for each device and each slot, the one at its barrier, the one at its landing, the one at its departure. -/
abbrev mint (x : Dev nD × Fin 3 × Fin 3) : GSem nD τ sig × ℕ × Fin 3 := match x.2.2 with
  | 0 => (cell x.1 .bar, 0, x.2.1)
  | 1 => (cell x.1 (.land x.2.1), 0, 0)
  | 2 => (cell x.1 (.gone x.2.1), 0, 0)
theorem mint_inj : Function.Injective mint := by
  rintro ⟨c, s, k⟩ ⟨c', s', k'⟩ h
  have hc : c = c' := by
    have := congrArg (fun x : GSem nD τ sig × ℕ × Fin 3 => x.1.1.1) h
    fin_cases k <;> fin_cases k' <;> exact this
  subst hc
  have hm : ∀ s k : Fin 3, portOf (mint (c, s, k)).1 = some (match k with | 0 => Port.bar | 1 => .land s | 2 => .gone s) := by
    intro s k; fin_cases k <;> exact portOf_cell _ _
  have hd : ∀ s k : Fin 3, (mint (c, s, k)).2.2 = if k = 0 then s else 0 := by intro s k; fin_cases k <;> rfl
  have h1 := congrArg (fun x : GSem nD τ sig × ℕ × Fin 3 => portOf x.1) h
  have h2 := congrArg (fun x : GSem nD τ sig × ℕ × Fin 3 => x.2.2) h
  rw [hm, hm] at h1
  rw [hd, hd] at h2
  have : s = s' ∧ k = k' := by revert h1 h2; clear h hm hd; revert s s' k k'; decide
  rw [this.1, this.2]
def allDuties : Finset (GSem nD τ sig × ℕ × Fin 3) := Finset.univ.map ⟨mint, mint_inj⟩

/-- The element that the ghost state starts from. -/
def u₀ : UU := (initOf (Pipeline.cells cfgs cellOf_inj) (Pipeline.launchToks cfgs cellOf_inj), initOf allPorts allDuties, 1)

/-- The duties at slot `s`'s ports of device `c`. -/
def minted (c : Dev nD) (s : Fin 3) : sProp 𝕄 :=
  iprop(dutyTok EX (cell c .bar) 0 s ∗ dutyTok EX (cell c (.land s)) 0 0 ∗ dutyTok EX (cell c (.gone s)) 0 0)

/-- What the launch deals to device `c`: its ports' round states, its places at them, their marks, their duties. -/
def share₀ (c : Dev nD) : sProp 𝕄 :=
  iprop((bigSep Finset.univ fun p : Port => roundState EX (plan own) (cell c p) 0)
    ∗ (bigSep Finset.univ fun p : Port => iprop(atPos EX (cell c p) 0 ∅ 0 ∗ reached EX (cell c p) 0))
    ∗ bigSep Finset.univ fun s : Fin 3 => minted (F := F) c s)

/-- The exchange's part of that element pays for every device's deal. -/
theorem fund : BI.own (EX (initOf allPorts allDuties)) ⊢ (|==> bigSep Finset.univ (share₀ own) : sProp 𝕄) := by
  have hX (Φ : GSem nD τ sig → sProp 𝕄) :
      bigSep allPorts Φ = bigSep Finset.univ fun c : Dev nD => bigSep Finset.univ fun p : Port => Φ (cell c p) := by
    unfold allPorts; rw [bigSep_map, bigSep_univ_prod]; rfl
  have hT : bigSep allDuties (fun x => (dutyTok EX x.1 x.2.1 x.2.2 : sProp 𝕄))
      = bigSep Finset.univ fun c : Dev nD => bigSep Finset.univ fun s : Fin 3 => minted (F := F) c s := by
    unfold allDuties; rw [bigSep_map, bigSep_univ_prod]
    refine bigSep_congr fun c _ => ?_
    rw [bigSep_univ_prod]
    exact bigSep_congr fun s _ => by rw [bigSep_three]; rfl
  iintro H
  imod (Rounds.fund EX (plan own) allPorts allDuties) $$ H with ⟨Hst, Hr, Hat, Htok⟩
  imodintro
  ihave Hst := (Entails.of_eq (hX fun g => roundState EX (plan own) g 0)) $$ Hst
  ihave Hat := (Entails.of_eq (hX fun g => atPos EX g 0 ∅ 0)) $$ Hat
  ihave Hr := (Entails.of_eq (hX fun g => reached EX g 0)) $$ Hr
  ihave Htok := (Entails.of_eq hT) $$ Htok
  unfold share₀; simp only [bigSep_sep']
  isplitl [Hst]; · iexact Hst
  isplitl [Hat Hr]
  · isplitl [Hat]; · iexact Hat
    iexact Hr
  iexact Htok

/-! ## The semaphores -/

/-- The kernel's own ten semaphores: four of the chunk buffers, three landings, three departures. -/
abbrev osem : Fin 10 → SemLoc sig
  | 0 => .dma (copyS 0) | 1 => .dma (copyS 1) | 2 => .dma (copyS 2) | 3 => .dma (copyS 3)
  | 4 => .dma (landS 0) | 5 => .dma (landS 1) | 6 => .dma (landS 2)
  | 7 => .dma (goneS 0) | 8 => .dma (goneS 1) | 9 => .dma (goneS 2)
theorem ownSemFacts : Pipeline.OwnSemFacts cfg0.spec osem := by decide

theorem ownSems0_eq (c : Dev nD) : (Pipeline.ownSems0 (Ix := Unit) (Name := ℕ) (U := UU) (Lvl := ℕ) (Val := Elt F) (τ := τ) osem c : sProp 𝕄)
    = iprop(semVal ((c : Thread nD τ), .dma (copyS 0)) 0 ∗ semVal ((c : Thread nD τ), .dma (copyS 1)) 0
      ∗ semVal ((c : Thread nD τ), .dma (copyS 2)) 0 ∗ semVal ((c : Thread nD τ), .dma (copyS 3)) 0
      ∗ semVal (cell c (.land 0)) 0 ∗ semVal (cell c (.land 1)) 0 ∗ semVal (cell c (.land 2)) 0
      ∗ semVal (cell c (.gone 0)) 0 ∗ semVal (cell c (.gone 1)) 0 ∗ semVal (cell c (.gone 2)) 0) := by
  rw [Pipeline.ownSems0_eq_of_list c osem [0, 1, 2, 3, 4, 5, 6, 7, 8, 9] (by decide) (by decide)]; rfl
theorem unscopedSems0_eq (c : Dev nD) : (unscopedSems0 c : sProp 𝕄) = semVal (cell c .bar) 0 := by
  unfold unscopedSems0; rw [bigSep_eq_bigSepL_of_eq [SemLoc.reg barS] (by decide) (by decide)]; rfl

/-- They are the chunk buffers' counters and the ports'. -/
theorem sems0_iff (c : Dev nD) :
    iprop(Pipeline.ownSems0 (Ix := Unit) (Name := ℕ) (U := UU) (Lvl := ℕ) (Val := Elt F) (τ := τ) osem c ∗ unscopedSems0 c)
      ⊣⊢ (iprop(idle (F := F) c ∗ shut (F := F) c) : sProp 𝕄) := by
  rw [ownSems0_eq, unscopedSems0_eq]
  unfold idle shut
  constructor
  · iintro ⟨⟨H0, H1, H2, H3, Hl0, Hl1, Hl2, Hg0, Hg1, Hg2⟩, Hb⟩
    iframe
  · iintro ⟨⟨H0, H1, H2, H3⟩, Hb, Hl0, Hl1, Hl2, Hg0, Hg1, Hg2⟩
    iframe

/-! ## Opening the ports -/

/-- One device opens its ports. -/
theorem open_ports (c : Dev nD) :
    iprop(Pipeline.ownSems0 (Ix := Unit) (Name := ℕ) (U := UU) (Lvl := ℕ) (Val := Elt F) (τ := τ) osem c ∗ unscopedSems0 c ∗ share₀ own c)
      ⊢ |={Set.univ}=> iprop((bigSep Finset.univ fun p : Port => iprop(∃ κ : ℕ, cellInv EX (plan own) κ (cell c p)))
          ∗ (bigSep Finset.univ fun p : Port => iprop(atPos EX (cell c p) 0 ∅ 0 ∗ reached EX (cell c p) 0))
          ∗ (bigSep Finset.univ fun s : Fin 3 => minted (F := F) c s) ∗ idle (F := F) c) := by
  unfold share₀
  iintro ⟨Hos, Hus, Hst, Hat, Htok⟩
  ihave Hv := (sems0_iff (F := F) c).1 $$ [Hos Hus]
  · isplitl [Hos] <;> iassumption
  icases Hv with ⟨Hi, Hv⟩
  imod (show iprop(shut (F := F) c ∗ bigSep Finset.univ fun p : Port => roundState EX (plan own) (cell c p) 0)
      ⊢ (|={Set.univ}=> bigSep Finset.univ fun p : Port => iprop(∃ κ : ℕ, cellInv EX (plan own) κ (cell c p)) : sProp 𝕄) from by
        unfold shut
        rw [← bigSep_ports (fun p => (semVal (cell c p) 0 : sProp 𝕄)), ← bigSep_sep']
        exact (bigSep_mono fun p _ => (Rounds.body_intro EX (plan own) (cell c p)).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hi

/-- What all devices may know: every port is open, and stands at round 0 or later. -/
def known (K : Dev nD × Port → ℕ) : sProp 𝕄 :=
  iprop((bigSep Finset.univ fun cp : Dev nD × Port => guard own K cp.1 cp.2)
    ∗ bigSep Finset.univ fun cp : Dev nD × Port => reached EX (cell cp.1 cp.2) 0)
instance known_persistent (K : Dev nD × Port → ℕ) : BI.Persistent (known own K) := by unfold known; infer_instance

theorem known_guard (K : Dev nD × Port → ℕ) (c : Dev nD) (p : Port) : known own K ⊢ guard own K c p := by
  have h : (bigSep Finset.univ fun cp : Dev nD × Port => (guard own K cp.1 cp.2 : sProp 𝕄)) ⊢ guard own K c p :=
    bigSep_elim (Finset.mem_univ (c, p))
  unfold known
  iintro ⟨H, -⟩
  iapply h; iexact H
theorem known_reached (K : Dev nD × Port → ℕ) (c : Dev nD) (p : Port) : known own K ⊢ reached EX (cell c p) 0 := by
  have h : (bigSep Finset.univ fun cp : Dev nD × Port => (reached EX (cell cp.1 cp.2) 0 : sProp 𝕄)) ⊢ reached EX (cell c p) 0 :=
    bigSep_elim (Finset.mem_univ (c, p))
  unfold known
  iintro ⟨-, H⟩
  iapply h; iexact H

/-- What a device begins its part in the exchange with, credits apart. -/
def party (c : Dev nD) : sProp 𝕄 :=
  iprop(∃ K, guards own K c ∗ begun (F := F) c ∗ stand (F := F) c 0 ∗ (dues (F := F) c 0 ∗ dues (F := F) c 1 ∗ dues (F := F) c 2) ∗ idle (F := F) c)

theorem party_intro (K : Dev nD × Port → ℕ) (c : Dev nD) :
    iprop(known own K ∗ (bigSep Finset.univ fun p : Port => atPos EX (cell c p) 0 ∅ 0) ∗ (bigSep Finset.univ fun s : Fin 3 => dues (F := F) c s) ∗ idle (F := F) c)
      ⊢ party own c := by
  unfold party guards begun stand
  rw [bigSep_ports, bigSep_three]
  iintro ⟨#Hk, Hat, Hd, Hi⟩
  iexists K
  isplitr
  · isplitr
    · isplitr; · iapply (known_guard own K c .bar); iexact Hk
      isplitr; · iapply (known_guard own K c (.land 0)); iexact Hk
      isplitr; · iapply (known_guard own K c (.land 1)); iexact Hk
      isplitr; · iapply (known_guard own K c (.land 2)); iexact Hk
      isplitr; · iapply (known_guard own K c (.gone 0)); iexact Hk
      isplitr; · iapply (known_guard own K c (.gone 1)); iexact Hk
      iapply (known_guard own K c (.gone 2)); iexact Hk
    isplitr
    · isplitr; · iapply (known_guard own K (src c 0) .bar); iexact Hk
      isplitr; · iapply (known_guard own K (src c 1) .bar); iexact Hk
      iapply (known_guard own K (src c 2) .bar); iexact Hk
    isplitr; · iapply (known_guard own K (dst c 0) (.land 0)); iexact Hk
    isplitr; · iapply (known_guard own K (dst c 1) (.land 1)); iexact Hk
    iapply (known_guard own K (dst c 2) (.land 2)); iexact Hk
  isplitr
  · isplitr
    · isplitr; · iapply (known_reached own K c (.land 0)); iexact Hk
      isplitr; · iapply (known_reached own K c (.land 1)); iexact Hk
      iapply (known_reached own K c (.land 2)); iexact Hk
    isplitr
    · isplitr; · iapply (known_reached own K c (.gone 0)); iexact Hk
      isplitr; · iapply (known_reached own K c (.gone 1)); iexact Hk
      iapply (known_reached own K c (.gone 2)); iexact Hk
    isplitr; · iapply (known_reached own K (src c 0) .bar); iexact Hk
    isplitr; · iapply (known_reached own K (src c 1) .bar); iexact Hk
    iapply (known_reached own K (src c 2) .bar); iexact Hk
  isplitl [Hat]; · iexact Hat
  isplitl [Hd]; · iexact Hd
  iexact Hi

/-- The duties go round: each device gets those it pays. -/
theorem deal_duties (s : Fin 3) :
    (bigSep Finset.univ fun c : Dev nD => (minted c s : sProp 𝕄)) = bigSep Finset.univ fun c : Dev nD => dues (F := F) c s := by
  unfold minted dues
  rw [bigSep_sep', bigSep_sep', bigSep_sep', bigSep_sep',
    bigSep_univ_equiv (turn s) (fun c : Dev nD => (dutyTok EX (cell c .bar) 0 s : sProp 𝕄)),
    bigSep_univ_equiv (turn s).symm (fun c : Dev nD => (dutyTok EX (cell c (.land s)) 0 0 : sProp 𝕄))]
  rfl

theorem deal_all :
    (bigSep Finset.univ fun c : Dev nD => bigSep Finset.univ fun s : Fin 3 => (minted c s : sProp 𝕄))
      = bigSep Finset.univ fun c : Dev nD => bigSep Finset.univ fun s : Fin 3 => dues (F := F) c s := by
  simp only [bigSep_three, bigSep_sep', deal_duties]

/-- All devices' open ports, put together and dealt out. -/
theorem regroup :
    (bigSep Finset.univ fun c : Dev nD => iprop((bigSep Finset.univ fun p : Port => iprop(∃ κ : ℕ, cellInv EX (plan own) κ (cell c p)))
          ∗ (bigSep Finset.univ fun p : Port => iprop(atPos EX (cell c p) 0 ∅ 0 ∗ reached EX (cell c p) 0))
          ∗ (bigSep Finset.univ fun s : Fin 3 => minted (F := F) c s) ∗ idle (F := F) c) : sProp 𝕄)
      ⊢ bigSep Finset.univ (party own) := by
  rw [bigSep_sep', bigSep_sep', bigSep_sep', deal_all,
    ← bigSep_univ_prod (fun cp : Dev nD × Port => iprop(∃ κ : ℕ, cellInv EX (plan own) κ (cell cp.1 cp.2))),
    bigSep_congr (s := Finset.univ) (fun (c : Dev nD) _ =>
      bigSep_sep' Finset.univ (fun p : Port => (atPos EX (cell c p) 0 ∅ 0 : sProp 𝕄)) (fun p => reached EX (cell c p) 0)),
    bigSep_sep', ← bigSep_univ_prod (fun cp : Dev nD × Port => (reached EX (cell cp.1 cp.2) 0 : sProp 𝕄))]
  iintro ⟨HI, ⟨Hat, #HR⟩, Hd, Hi⟩
  ihave HK := (BI.bigSep_exists_pi Finset.univ (fun (cp : Dev nD × Port) (κ : ℕ) => (cellInv EX (plan own) κ (cell cp.1 cp.2) : sProp 𝕄))) $$ HI
  icases HK with ⟨%K, #HI⟩
  have hR : iprop(known own K ∗ bigSep Finset.univ fun c : Dev nD =>
        iprop((bigSep Finset.univ fun p : Port => atPos EX (cell c p) 0 ∅ 0) ∗ (bigSep Finset.univ fun s : Fin 3 => dues (F := F) c s) ∗ idle (F := F) c))
      ⊢ bigSep Finset.univ (party own) :=
    (sep_mono_left (BI.bigSep_of_persistent Finset.univ (known own K))).trans
      (by rw [← bigSep_sep']; exact bigSep_mono fun c _ => party_intro own K c)
  iapply hR
  isplitr
  · unfold known; isplitl; · iexact HI
    iexact HR
  · rw [bigSep_sep', bigSep_sep']
    isplitl [Hat]; · iexact Hat
    isplitl [Hd]; · iexact Hd
    iexact Hi

/-- The step taken for all devices at once. -/
theorem glob : (bigSep Finset.univ fun c =>
      iprop(Pipeline.ownSems0 (Ix := Unit) (Name := ℕ) (U := UU) (Lvl := ℕ) (Val := Elt F) (τ := τ) osem c ∗ unscopedSems0 c ∗ share₀ own c) : sProp 𝕄)
    ⊢ |={Set.univ}=> bigSep Finset.univ (party own) :=
  ((bigSep_mono fun c _ => open_ports own c).trans (bigSep_fupd _ _)).trans (BI.fupd_mono (regroup own))

/-! ## The credits -/

theorem tally_cell (c d : Dev nD) (p q : Port) (n : ℕ) :
    (tallyAt (cell d q) () n : CellTallies nD τ sig Unit) (cell c p) () = if c = d ∧ p = q then n else 0 := by
  rw [tallyAt_apply]
  exact if_congr ((and_iff_left rfl).trans cell_eq_iff) rfl rfl
/-- What device `d` owes to a port of `c`. -/
theorem owed (d c : Dev nD) (p : Port) : debt₀ d (cell c p) ()
    = (((if c = dst d 0 ∧ p = .land 0 then N else 0) + (if c = dst d 2 ∧ p = .land 2 then N else 0)
        + (if c = dst d 1 ∧ p = .land 1 then N else 0)) + (if c = src d 2 ∧ p = .bar then 1 else 0)
        + (if c = src d 1 ∧ p = .bar then 1 else 0)) + (if c = src d 0 ∧ p = .bar then 1 else 0) := by
  unfold debt₀ debt
  simp only [Pi.add_apply, Finsupp.add_apply]
  rw [tally_cell, tally_cell, tally_cell, tally_cell, tally_cell, tally_cell]
/-- What it owes the barrier of `c`. -/
theorem owed_bar (d c : Dev nD) : debt₀ d (cell c .bar) ()
    = (if c = src d 2 then 1 else 0) + (if c = src d 1 then 1 else 0) + (if c = src d 0 then 1 else 0) := by
  rw [owed]; simp
/-- What it owes landing `s` of `c`. -/
theorem owed_land (d c : Dev nD) (s : Fin 3) : debt₀ d (cell c (.land s)) () = if d = src c s then N else 0 := by
  have h : (d = src c s) ↔ c = dst d s := ⟨fun h => by rw [h, dst_src], fun h => by rw [h, src_dst]⟩
  rw [owed, if_congr h rfl rfl]
  fin_cases s <;> simp

theorem launch_bar (c : Dev nD) :
    tallyOn (cell c .bar) (launchCredit (Pipeline.owing debt₀) 0 (cell c .bar)) = (tallyAt (cell c .bar) () 3 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide
theorem launch_land (c : Dev nD) (s : Fin 3) :
    tallyOn (cell c (.land s)) (launchCredit (Pipeline.owing debt₀) 0 (cell c (.land s))) = (tallyAt (cell c (.land s)) () N : CellTallies nD τ sig Unit) := by
  unfold tallyAt; refine congrArg _ (Finsupp.ext fun u => ?_); cases u
  rw [Pipeline.launchCredit_owing, Finsupp.single_eq_same, Finset.sum_congr rfl fun d _ => owed_land d c s,
    Finset.sum_ite_eq' Finset.univ (src c s) fun _ => N, if_pos (Finset.mem_univ _)]

/-- The launch gives each device the credits that it waits with. -/
theorem creds (c : Dev nD) : (Pipeline.launchCred debt₀ c : sProp 𝕄) ⊢ credits (F := F) c := by
  unfold Pipeline.launchCred credits
  have h : (bigSep Finset.univ fun sm : SemLoc sig =>
        (cred (tallyOn ((c : Thread nD τ), sm) (launchCredit (Pipeline.owing debt₀) 0 ((c : Thread nD τ), sm))) : sProp 𝕄))
      ⊢ bigSep Finset.univ fun p : Port => cred (tallyOn (cell c p) (launchCredit (Pipeline.owing debt₀) 0 (cell c p))) :=
    BIBase.Entails.trans (bigSep_subset (Finset.subset_univ ((Finset.univ : Finset Port).map ⟨portSem, fun p q => portSem_inj p q⟩)))
      (Entails.of_eq (bigSep_map _))
  refine h.trans ?_
  rw [bigSep_ports]
  iintro ⟨Hb, H0, H1, H2, -⟩
  rw [← launch_bar, ← launch_land c 0, ← launch_land c 1, ← launch_land c 2]
  isplitl [Hb]; · iexact Hb
  isplitl [H0]; · iexact H0
  isplitl [H1]; · iexact H1
  iexact H2

end Cert.ColMean

end
-- ==== Proof.Run.lean ====
/-
  The run of the whole program on the four devices, for any float values: every execution ends, with the result row
  computed, the operand as it was and every semaphore at zero.
-/
module

public import proofs.«01_k».proof.Proof.Deal
public import Idealize.ShloMosaic.Lib.Pipeline.CollectiveSegs

@[expose] public section

noncomputable section

namespace Cert.ColMean

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]
variable (m : (ℓ : Loc nD τ sig) → Buf (Elt F) ℓ) (ρ : Dev nD → PrngReg)

local notation "𝕄" => MT nD τ sig Unit (Elt F) ℕ UU ℕ

/-- The memory at launch: any contents, every semaphore at zero. -/
def s₀ : MemSt nD τ sig (Elt F) := ⟨m, fun _ => 0, ρ⟩

/-- Device `c`'s block, and the row of its column sums. -/
abbrev block (c : Dev nD) : Buf (Elt F) (xM.view.loc (c : Thread nD τ)) := m ((c : Thread nD τ).loc main_arg0)
def sums (c : Dev nD) : Row F := ownRow (block m c)

/-! ## Before and after the body -/

/-- What device `c` begins with, its block included. -/
def start (c : Dev nD) : sProp 𝕄 :=
  iprop(party (sums m) c ∗ credits (F := F) c ∗ levAts L lv ∗ (xM.view.loc (c : Thread nD τ) ↦[Finset.univ]{fullShare} block m c))
/-- The three scratch buffers, at some contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))
def Φ₀ (c : Dev nD) : sProp 𝕄 := iprop(start m c ∗ scratch (F := F) c)
/-- What it ends with: its ports and counters at zero, its block as it was. -/
def Φ₁ (c : Dev nD) : sProp 𝕄 :=
  iprop((idle (F := F) c ∗ shut (F := F) c) ∗ (xM.view.loc (c : Thread nD τ) ↦[Finset.univ]{fullShare} block m c) ∗ scratch (F := F) c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => outRow (sums m) c
    | ⟨_ + 1, h⟩ => absurd h (Nat.not_lt.2 (Nat.le_add_left _ _))
  Φ t := match t with
    | ⟨0, _⟩ => Φ₀ m c
    | ⟨_ + 1, _⟩ => Φ₁ m c
  q _ := fullShare
  owed t := match t with
    | ⟨0, _⟩ => debt₀ c
    | ⟨_ + 1, _⟩ => 0

/-- The one point of the grid. -/
abbrev pt : Fin cfg0.N := t0_0
theorem pt_all (t : Fin cfg0.N) : t = pt := fin_N0 t
theorem win_one (Φ : Fin cfg0.W → sProp 𝕄) : bigSep Finset.univ Φ = Φ (0 : Fin 1) := bigSep_W0 Φ

theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body, as the launch asks for it -/

/-- The result's staging row, holding `X`. -/
def stage (c : Dev nD) (X : Row F) : sProp 𝕄 :=
  iprop(∃ f : Buf (Elt F) ((c : Thread nD τ).loc cc0_stg0_0), ⌜f = X⌝ ∗ (((c : Thread nD τ).loc cc0_stg0_0) ↦{fullShare} f))
def before (c : Dev nD) : sProp 𝕄 :=
  iprop(Φ₀ m c ∗ (dats m ρ 0 c).owesAt () pt.castSucc ∗ ∃ d, stage c ((dats m ρ 0 c).before (0 : Fin 1) pt d))
def after (c : Dev nD) : sProp 𝕄 :=
  iprop(Φ₁ m c ∗ (dats m ρ 0 c).owesAt () pt.succ ∗ stage c (outRow (sums m) c))

set_option maxRecDepth 4000 in
theorem body_sound (c : Dev nD) : before m ρ c ⊢ wp frame (wpE (defs₀ (F := F)) 𝒱₀ c none) Set.univ
    (cc0_body xM (Memref.isWhole_whole _) outM (Memref.isWhole_whole _) bufM (Memref.isWhole_whole _) ownM (Memref.isWhole_whole _)
      boxM (Memref.isWhole_whole _) cc0_scratch3 cc0_scratch4 cc0_scratch5) (fun _ => after m ρ c) := by
  unfold before Φ₀ start party scratch stage Dat.owesAt Pipeline.owesWithin
  rw [show (dats m ρ 0 c).owed pt.castSucc = debt₀ c from rfl]
  iintro ⟨⟨⟨⟨%K, Hg, Hb, Hs, Hd, Hi⟩, Hc, #Hlev, HX⟩, ⟨%B, HB⟩, ⟨%R, HR⟩, ⟨%Z, HZ⟩⟩, ⟨%W, %hW, HO⟩, ⟨%d, %Y, %hY, HY⟩⟩
  ihave HZ := (box_split c Z) $$ HZ
  iapply (body_run (sums m) K c (block m c) B R Y W (fun _ => after m ρ c) rfl fun q hq => mayWait_low c q hq (debt c) (.inr (.inl rfl)))
  isplitr []
  · isplitl [Hg Hb Hs Hd Hc]
    · isplitl [Hg]; · iexact Hg
      isplitl [Hb]; · iexact Hb
      isplitl [Hs]; · iexact Hs
      isplitl [Hd]; · iexact Hd
      isplitl [Hc]; · iexact Hc
      iexact Hlev
    isplitl [HZ]; · iexact HZ
    isplitl [HX]; · iexact HX
    isplitl [HB]; · iexact HB
    isplitl [HR]; · iexact HR
    isplitl [HY]; · iexact HY
    isplitl [Hi]; · iexact Hi
    iexact HO
  · iintro ⟨Hz, HX, HB, HR, HZ, HY, Hi, ⟨%W', HO⟩⟩
    unfold after Φ₁ scratch stage Dat.owesAt Pipeline.owesWithin
    rw [show (dats m ρ 0 c).owed pt.succ = 0 from rfl]
    isplitl [Hz HX HB HR HZ Hi]
    · isplitl [Hz Hi]
      · isplitl [Hi]; · iexact Hi
        iexact Hz
      isplitl [HX]; · iexact HX
      isplitl [HB]; · iexact HB
      isplitl [HR]; · iexact HR
      iexact HZ
    isplitl [HO]
    · iexists W'
      isplitr; · ipureintro; exact fun _ _ => Or.inl trivial
      iexact HO
    iexists (outRow (sums m) c)
    isplitr; · ipureintro; rfl
    iexact HY

set_option maxRecDepth 4000 in
/-- The body's obligation on device `c`. -/
theorem body_obligation (c : Dev nD) : BodyObligation (dats (F := F) m ρ 0 c) (defs₀ (F := F)) 𝒱₀ () Set.univ := fun t => by
  rw [pt_all t]
  rw [win_one, win_one]
  simp only [owns_whole]
  show before m ρ c ⊢ wp frame (wpE (defs₀ (F := F)) 𝒱₀ c none) Set.univ
    (cc0_body (Memref.whole main_arg0) (Memref.isWhole_whole _) (Memref.whole cc0_stg0_0) (Memref.isWhole_whole _)
      (Memref.whole cc0_scratch0) (Memref.isWhole_whole _) (Memref.whole cc0_scratch1) (Memref.isWhole_whole _)
      (Memref.whole cc0_scratch2) (Memref.isWhole_whole _) cc0_scratch3 cc0_scratch4 cc0_scratch5) (fun _ => after m ρ c)
  exact body_sound m ρ c

/-! ## The launch -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred debt₀ c ∗ prngReg c (ρ c) ∗ party (sums m) c)
      ⊢ |={Set.univ}=> iprop(start m c ∗ emp) := by
  rw [Pipeline.unscopedRestP_none, unscopedRest0_eq]
  iintro ⟨HX, Hlev, Hcr, -, HG⟩
  ihave Hc := (creds (F := F) c) $$ Hcr
  imodintro
  unfold start
  isplitl
  · isplitl [HG]; · iexact HG
    isplitl [Hc]; · iexact Hc
    isplitl [Hlev]; · iexact Hlev
    iexact HX
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs]; · iexact Hs
  iexact Hr

/-- What a device hands back beside its own: the barrier at zero, and its block as it was. -/
def kept (c : Dev nD) : sProp 𝕄 :=
  iprop(unscopedSems0 c ∗ (((c : Thread nD τ).loc main_arg0) ↦{fullShare} m ((c : Thread nD τ).loc main_arg0)))

theorem phi1_exit (c : Dev nD) :
    (dats m ρ 0 c).Φ (Fin.last cfg0.N) ⊢ iprop(kept m c ∗ Pipeline.ownSems0 osem c ∗ Pipeline.scopedRest cfg0.spec c) := by
  rw [show (dats m ρ 0 c).Φ (Fin.last cfg0.N) = Φ₁ m c from rfl, scopedRest0_eq]
  unfold Φ₁ scratch kept
  iintro ⟨Hz, HX, Hr⟩
  ihave Hz := (sems0_iff (F := F) c).2 $$ Hz
  icases Hz with ⟨Hos, Hus⟩
  isplitl [Hus HX]
  · isplitl [Hus]; · iexact Hus
    iexact HX
  isplitl [Hos]; · iexact Hos
  iexact Hr

/-- The staging's own waits are at the lowest level. -/
theorem waits (c : Dev nD) : (levAts L lv : sProp 𝕄) ⊢ Pipeline.cellsWaits cfgs (dats m ρ) () 0 c :=
  Pipeline.cellsWaits_intro cfgs (dats m ρ) () 0 c fun w s t =>
    mayWait_low c _ (by
      have h : ∀ (w : Fin 1) (s : Fin ((cfg0.win w).nbuf)), (ports.find? fun p => portSem p = SemLoc.dma ((cfg0.win w).sem s)) = none := by decide
      unfold lv portOf; rw [if_pos rfl]; exact congrArg (fun o => Option.elim o 0 lvOf) (h w s)) _ (by
      rcases t with ⟨_ | _, ht⟩
      · exact Or.inl rfl
      · exact Or.inr (Or.inr rfl))

/-! ## The run -/

def finalA (c : Dev nD) (w : Fin cfg0.W) : Buf (Elt F) ((cfg0.win w).arr.view.loc (c : Thread nD τ)) := (dats m ρ 0 c).arrAt w cfg0.N

set_option maxRecDepth 8000 in
/-- From any memory with every semaphore at zero, every execution of the program on the four devices ends; then each
    window's array is as computed, the operand is as it was, and every semaphore is at zero. -/
theorem run_main : θ_run defs (onTc (τ := τ) (main (F := F))) (s₀ m ρ) (fun r =>
    (∀ c : Dev nD, ∀ w : Fin cfg0.W, r.2.mem ((cfg0.win w).arr.view.loc (c : Thread nD τ)) = finalA m ρ c w)
      ∧ (∀ c : Dev nD, r.2.mem ((c : Thread nD τ).loc main_arg0) = m ((c : Thread nD τ).loc main_arg0)) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => block_pos0 w) (harr := arr_whole0) (hstage := stage_whole0) (hshare := share_eq m ρ)
    (hdistinct := winFacts0.arr_inj)
    (O₀ := debt₀) (howed₀ := fun _ => rfl) (howedN := fun _ => rfl)
    (L := L) (lv := lv) (hL := L_off) (hwaits := waits m ρ)
    (G := share₀ (sums m)) (G' := party (sums m)) (u₀ := u₀)
    (hu₀ := by
      unfold u₀
      iintro Hu
      ihave H := (ownU_pair _ _) $$ Hu
      icases H with ⟨HP, HX⟩
      ihave HX := (Entails.of_eq (show (BI.own (embR ((initOf allPorts allDuties, 1) : UX × Counters)) : sProp 𝕄)
        = BI.own (EX (initOf allPorts allDuties)) from rfl)) $$ HX
      imod (fund (sums m)) $$ HX with HG
      imodintro
      isplitl [HP] <;> iassumption)
    (hglob := glob (sums m))
    (hA := fun _ _ => rfl) (hpf := fun _ k => k.elim0)
    (X := start m) (Y := kept m) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg0) = m ((c : Thread nD τ).loc main_arg0))
    (hY := fun c s' => by
      unfold kept
      iintro ⟨⟨Hu, HX⟩, -, HSI⟩
      imod (Pipeline.unscopedSems0_read (X := unscopedSems0 c) (c := c) fupd_intro s') $$ [Hu HSI] with ⟨%hs, HSI⟩
      · isplitl [Hu] <;> iassumption
      ihave H := (pointsTo_read_all (I := Unit) {()} (fun _ => (c : Thread nD τ).loc main_arg0) (fun _ => m ((c : Thread nD τ).loc main_arg0)) s') $$ [HX HSI]
      · isplitl [HX]
        · rw [bigSep_singleton]; iexact HX
        · iexact HSI
      icases H with ⟨%hm, HSI⟩
      imodintro
      isplitr
      · ipureintro; exact ⟨hs, hm () (Finset.mem_singleton_self _)⟩
      · iexact HSI)
    (hQ := fun _ h hs => ⟨fun c w => (h c).1 w, fun c => (h c).2.2.2, sem_eq_zero hs fun c => (h c).2.2.1⟩)

end Cert.ColMean

end
-- ==== Proof.Final.lean ====
/-
  What the result array holds at the end: the grid has one point, whose block is the whole array, so the array ends as the
  row that the body stored.
-/
module

public import proofs.«01_k».proof.Proof.Run
public import Idealize.ShloMosaic.Lib.Pipeline.Value

@[expose] public section

noncomputable section

namespace Cert.ColMean

open Cert.KernelIdeal Cert.KernelIdeal.Gen

open Idealize.ShloMosaic
open Idealize.ShloMosaic.TcCoe

variable {F : FTy → Type} [FloatOps F] (m : (ℓ : Loc nD τ sig) → Buf (Elt F) ℓ) (ρ : Dev nD → PrngReg)

/-- The one block lies in the array index by index. -/
theorem block_place (i : S1x1024.Idx) : ((cfg0.win 0).blk pt).view.emb i = i := by
  funext a
  match a with
  | ⟨0, _⟩ => exact Fin.ext ((Pipeline.Window.rect_emb_val (cfg0.win 0) pt i 0).trans (Nat.zero_add _))
  | ⟨1, _⟩ => exact Fin.ext ((Pipeline.Window.rect_emb_val (cfg0.win 0) pt i 1).trans (Nat.zero_add _))

/-- The result array of device `c` ends as the row that its body stored. -/
theorem final_row (c : Dev nD) : finalA m ρ c 0 = outRow (sums m) c := by
  refine (dats m ρ 0 c).arrAt_eq_of_cover 0 (outRow (sums m) c) (fun t _ => ?_) (fun i => ⟨pt, flush0_0 pt, ?_⟩)
  · rw [pt_all t]
    funext i
    rw [View.read_apply]
    exact (congrArg (outRow (sums m) c) (block_place i)).symm
  · have h := ((cfg0.win 0).blk pt).view.emb_mem_set i
    rw [block_place i] at h
    exact h

end Cert.ColMean

end
-- ==== Proof.Columns.lean ====
/-
  The sums of a table's columns, on extended reals. The sum of a column over a run of rows is written as a sum over
  natural numbers, so that runs are joined by arithmetic alone. Here: what one chunk adds to the row of sums, and that
  the eight chunks together are the device's whole block.
-/
module

public import proofs.«01_k».proof.Proof.Sums
public import Idealize.ShloMosaic.Lib.Pointwise

@[expose] public section

noncomputable section

namespace Cert.ColMean

open Cert.KernelIdeal Cert.KernelIdeal.Gen

open Idealize.ShloMosaic

/-- A table of `n` rows. -/
abbrev Tbl (n : ℕ) : Shape := ⟨2, ![n, 1024]⟩

/-- The entry of a table in row `r` and column `c`; zero past the last row. -/
def entry {n : ℕ} (X : (Tbl n).Idx → EReal) (c : Fin 1024) (r : ℕ) : EReal :=
  if h : r < n then X (ix2 ⟨r, h⟩ c) else 0

/-- An index of a table is its row and its column. -/
theorem entry_at {n : ℕ} (X : (Tbl n).Idx → EReal) (j : (Tbl n).Idx) : X j = entry X (j 1) (j 0) := by
  have h0 : (j 0).val < n := (j 0).isLt
  unfold entry
  rw [dif_pos h0]
  congr 1
  funext a
  match a with
  | ⟨0, _⟩ => rfl
  | ⟨1, _⟩ => rfl

/-- The sum over the rows of one column of a table. -/
def colSum {n : ℕ} (X : (Tbl n).Idx → EReal) (c : Fin 1024) : EReal := ∑ r ∈ Finset.range n, entry X c r

/-- It is the sum over the table's own row numbers. -/
theorem colSum_fin {n : ℕ} (X : (Tbl n).Idx → EReal) (c : Fin 1024) : colSum X c = ∑ r : Fin n, X (ix2 r c) := by
  unfold colSum
  rw [Finset.sum_range]
  exact Finset.sum_congr rfl fun r _ => by unfold entry; rw [dif_pos r.isLt]

/-- A chunk buffer's table, with its leading axis of length one dropped again, is the table put into it. -/
theorem unstack {n : ℕ} (w : (Tbl n).Idx → EReal) (hq : (⟨3, ![1, n, 1024]⟩ : Shape).Squeezes (Tbl n))
    (hc : (⟨3, ![1, n, 1024]⟩ : Shape).ShapeCasts (Tbl n)) : shapeCast (Tbl n) (stack w hq) hc = w := by
  funext j
  unfold shapeCast stack
  congr 1
  rw [Equiv.symm_apply_eq]

/-- A row of 1024 numbers as a table of one row: the number in column `c` is the row's. -/
theorem as_row (v : S1024.Idx → EReal) (h : S1024.ShapeCasts S1x1024) (i : S1x1024.Idx) (j : S1024.Idx) (hj : (j 0).val = (i 1).val) :
    shapeCast S1x1024 v h i = v j := by
  unfold shapeCast
  congr 1
  refine Shape.reshapeEquiv_eq_of_rowMajor h ?_
  have h0 : (i 0).val = 0 := by have := (i 0).isLt; change (i 0).val < 1 at this; omega
  rw [rowMajor_val1, rowMajor_val2 i 1024 rfl]
  omega

/-- The column of an index into a row. -/
def colOf (i : S1x1024.Idx) : Fin 1024 := ⟨(i 1).val, (i 1).isLt⟩

/-- The index of a column in a list of 1024 numbers. -/
def listAt (c : Fin 1024) : S1024.Idx := fun a => match a with | ⟨0, _⟩ => c

/-- What one chunk adds to the row of sums: in each column the sum over the chunk's rows. -/
theorem chunk_adds {n : ℕ} (w : (Tbl n).Idx → EReal) (hq : (⟨3, ![1, n, 1024]⟩ : Shape).Squeezes (Tbl n))
    (hc : (⟨3, ![1, n, 1024]⟩ : Shape).ShapeCasts (Tbl n)) (hr : (Tbl n).Reduces [0] S1024) (hφ : FKind.Formats .f32)
    (hz : (0x00000000#32 : BitVec FTy.f32.bits) = FKind.add.neutral .f32 hφ) (hs : S1024.ShapeCasts S1x1024) (i : S1x1024.Idx) :
    shapeCast S1x1024 (multiReduction (F := Ideal) (φ := .f32) .add [0] S1024 (shapeCast (Tbl n) (stack w hq) hc) 0x00000000#32 hr hφ hz) hs i
      = colSum w (colOf i) := by
  rw [unstack, as_row _ hs i (listAt (colOf i)) rfl, multiReduction_add_apply, Ideal.reduceAdd_def, Ideal.reduceAdd_r2_a0, colSum_fin]
  rfl

/-- A run of rows of a table has the table's entries, from the run's first row on. -/
theorem entry_rows {n o : ℕ} (h : ∀ a, (![o, 0] : Fin 2 → ℕ) a + (![n, 1024] : Fin 2 → ℕ) a ≤ S4096x1024.size a)
    (X : S4096x1024.Idx → EReal) (c : Fin 1024) {r : ℕ} (hr : r < n) : entry (rows (F := Ideal) n o h X) c r = entry X c (o + r) := by
  have h0 : o + n ≤ 4096 := h 0
  unfold entry
  rw [dif_pos hr, dif_pos (show o + r < 4096 by omega)]
  show X _ = X _
  congr 1
  funext a
  match a with
  | ⟨0, _⟩ => exact Fin.ext (by rw [Rect.emb_apply]; show o + 1 * r = o + r; omega)
  | ⟨1, _⟩ => exact Fin.ext (by rw [Rect.emb_apply]; show 0 + 1 * c.val = c.val; omega)

/-- So its column sums are sums over that run. -/
theorem colSum_rows {n o : ℕ} (h : ∀ a, (![o, 0] : Fin 2 → ℕ) a + (![n, 1024] : Fin 2 → ℕ) a ≤ S4096x1024.size a)
    (X : S4096x1024.Idx → EReal) (c : Fin 1024) : colSum (rows (F := Ideal) n o h X) c = ∑ r ∈ Finset.range n, entry X c (o + r) :=
  Finset.sum_congr rfl fun r hr => entry_rows h X c (Finset.mem_range.mp hr)

/-- The first chunk's sums, added to zero. -/
theorem first_chunk (w : (Tbl 576).Idx → EReal) (i : S1x1024.Idx) :
    k0_pay1 (F := Ideal) (stack w squeezes_S1x576x1024_S576x1024) i = colSum w (colOf i) := by
  show Ideal.ofBits .f32 0x00000000#32 + _ = _
  rw [Ideal.ofBits_zero_f32, zero_add]
  exact chunk_adds w _ _ _ _ _ _ i

/-- Two more chunks, added to what there is. -/
theorem next_chunks (v : S1x1024.Idx → EReal) (w w' : (Tbl 576).Idx → EReal) (i : S1x1024.Idx) :
    k0_pay2 (F := Ideal) v (stack w squeezes_S1x576x1024_S576x1024) (stack w' squeezes_S1x576x1024_S576x1024) i
      = v i + colSum w (colOf i) + colSum w' (colOf i) :=
  congrArg₂ (· + ·) (congrArg (v i + ·) (chunk_adds w _ _ _ _ _ _ i)) (chunk_adds w' _ _ _ _ _ _ i)

/-- And two more. -/
theorem later_chunks (v : S1x1024.Idx → EReal) (w w' : (Tbl 576).Idx → EReal) (i : S1x1024.Idx) :
    k0_pay3 (F := Ideal) v (stack w squeezes_S1x576x1024_S576x1024) (stack w' squeezes_S1x576x1024_S576x1024) i
      = v i + colSum w (colOf i) + colSum w' (colOf i) :=
  congrArg₂ (· + ·) (congrArg (v i + ·) (chunk_adds w _ _ _ _ _ _ i)) (chunk_adds w' _ _ _ _ _ _ i)

/-- The last two chunks of 576 rows, and the one of 64. -/
theorem last_chunks (v : S1x1024.Idx → EReal) (w w' : (Tbl 576).Idx → EReal) (w'' : (Tbl 64).Idx → EReal) (i : S1x1024.Idx) :
    k0_pay4 (F := Ideal) v (stack w squeezes_S1x576x1024_S576x1024) (stack w' squeezes_S1x576x1024_S576x1024)
        (stack w'' squeezes_S1x64x1024_S64x1024) i
      = v i + colSum w (colOf i) + colSum w' (colOf i) + colSum w'' (colOf i) :=
  congrArg₂ (· + ·) (congrArg₂ (· + ·) (congrArg (v i + ·) (chunk_adds w _ _ _ _ _ _ i)) (chunk_adds w' _ _ _ _ _ _ i))
    (chunk_adds w'' _ _ _ _ _ _ i)

/-- A sum over a run of rows, and over the run that follows it, is the sum over both. -/
theorem join_runs (f : ℕ → EReal) (o n : ℕ) :
    ∑ r ∈ Finset.range o, f r + ∑ r ∈ Finset.range n, f (o + r) = ∑ r ∈ Finset.range (o + n), f r :=
  (Finset.sum_range_add f o n).symm

/-- The row a device computes from its own block holds, in each column, the sum over all the block's rows. -/
theorem own_value (X : S4096x1024.Idx → EReal) (i : S1x1024.Idx) : ownRow (F := Ideal) X i = colSum X (colOf i) := by
  unfold ownRow chunk chunkLast
  rw [last_chunks, later_chunks, next_chunks, first_chunk]
  simp only [colSum_rows, zero_add, join_runs]
  rfl

end Cert.ColMean

end
-- ==== Proof.Mean.lean ====
/-
  The equation. Each device ends with its own row of column sums and those of the three others, added up and multiplied by
  2⁻¹⁴; since the four blocks are the whole table's rows, this is the whole table's column sum divided by 16384, on every
  device alike. The reference computes the same.
-/
module

public import proofs.«01_k».proof.Proof.Columns
public import proofs.«01_k».proof.Proof.Body
public import Idealize.ShloMosaic.Lib.Layout

@[expose] public section

noncomputable section

namespace Cert.ColMean

open Cert.KernelIdeal Cert.KernelIdeal.Gen

open Idealize.ShloMosaic

/-- The mean of each column of the whole table. -/
def meanRow (X : (Tbl 16384).Idx → EReal) : S1x1024.Idx → EReal := fun i => colSum X (colOf i) * ((1 / 16384 : ℝ) : EReal)

/-- The kernel's factor is 2⁻¹⁴. -/
theorem factor : Ideal.ofBits .f32 0x38800000#32 = ((1 / 16384 : ℝ) : EReal) := by
  simp [Ideal.ofBits, Ideal.ieee, -EReal.coe_mul]; norm_num

/-- The reference's divisor is 16384. -/
theorem divisor : Ideal.ofBits .f32 0x46800000#32 = ((16384 : ℝ) : EReal) := by
  simp [Ideal.ofBits, Ideal.ieee, -EReal.coe_mul]; norm_num

/-- What a device stores: its own row and the three it received, added up, times the factor. -/
theorem out_value (own : Dev nD → S1x1024.Idx → EReal) (c : Dev nD) (i : S1x1024.Idx) :
    outRow (F := Ideal) own c i = (own c i + own (src c 0) i + own (src c 1) i + own (src c 2) i) * ((1 / 16384 : ℝ) : EReal) := by
  rw [← factor]
  show (own c i + shapeCast (Tbl 1) (stack (own (src c 0)) squeezes_S1x1x1024_S1x1024) _ i
      + shapeCast (Tbl 1) (stack (own (src c 1)) squeezes_S1x1x1024_S1x1024) _ i
      + shapeCast (Tbl 1) (stack (own (src c 2)) squeezes_S1x1x1024_S1x1024) _ i) * _ = _
  rw [unstack, unstack, unstack]
  rfl

/-- Whichever device one starts from, it and the three others are all four. -/
theorem all_round (f : Dev nD → EReal) (c : Dev nD) : f c + f (src c 0) + f (src c 1) + f (src c 2) = f 0 + f 1 + f 2 + f 3 := by
  match c with
  | 0 => rfl
  | 1 => show f 1 + f 2 + f 3 + f 0 = _; ac_rfl
  | 2 => show f 2 + f 3 + f 0 + f 1 = _; ac_rfl
  | 3 => show f 3 + f 0 + f 1 + f 2 = _; ac_rfl

/-- Block `d`'s entries are the whole table's, from row `4096 d` on. -/
theorem entry_block (X : (Tbl 16384).Idx → EReal) (h : Layout.Tiles (Tbl 4096) (Tbl 16384) 0 4) (d : Fin 4) (c : Fin 1024) {r : ℕ}
    (hr : r < 4096) : entry (Layout.block (Tbl 4096) (Tbl 16384) 0 4 d X h) c r = entry X c (d.val * 4096 + r) := by
  have hd : d.val < 4 := d.isLt
  unfold entry
  rw [dif_pos hr, dif_pos (show d.val * 4096 + r < 16384 by omega)]
  show X _ = X _
  congr 1
  funext a
  match a with
  | ⟨0, _⟩ => rfl
  | ⟨1, _⟩ => rfl

/-- The column sums of the four blocks add up to the whole table's. -/
theorem blocks_sum (X : (Tbl 16384).Idx → EReal) (h : Layout.Tiles (Tbl 4096) (Tbl 16384) 0 4) (c : Fin 1024) :
    colSum (Layout.block (Tbl 4096) (Tbl 16384) 0 4 0 X h) c + colSum (Layout.block (Tbl 4096) (Tbl 16384) 0 4 1 X h) c
      + colSum (Layout.block (Tbl 4096) (Tbl 16384) 0 4 2 X h) c + colSum (Layout.block (Tbl 4096) (Tbl 16384) 0 4 3 X h) c
      = colSum X c := by
  have hb (d : Fin 4) : colSum (Layout.block (Tbl 4096) (Tbl 16384) 0 4 d X h) c
      = ∑ r ∈ Finset.range 4096, entry X c (d.val * 4096 + r) :=
    Finset.sum_congr rfl fun r hr => entry_block X h d c (Finset.mem_range.mp hr)
  rw [hb, hb, hb, hb]
  show ∑ r ∈ Finset.range 4096, entry X c (0 * 4096 + r) + ∑ r ∈ Finset.range 4096, entry X c (1 * 4096 + r)
    + ∑ r ∈ Finset.range 4096, entry X c (2 * 4096 + r) + ∑ r ∈ Finset.range 4096, entry X c (3 * 4096 + r) = _
  simp only [Nat.zero_mul, Nat.zero_add, join_runs]
  rfl

/-- If each device holds its block of a table, every device ends with the row of the table's column means. -/
theorem kernel_value (X : (Tbl 16384).Idx → EReal) (h : Layout.Tiles (Tbl 4096) (Tbl 16384) 0 4) (B : Dev nD → S4096x1024.Idx → EReal)
    (hB : ∀ d : Dev nD, B d = Layout.block (Tbl 4096) (Tbl 16384) 0 4 d X h) (c : Dev nD) :
    outRow (F := Ideal) (fun d => ownRow (F := Ideal) (B d)) c = meanRow X := by
  funext i
  rw [out_value]
  rw [all_round (fun d => ownRow (F := Ideal) (B d) i) c]
  simp only [own_value, hB]
  rw [blocks_sum]
  rfl

/-- A single number, as a host program holds it. -/
abbrev One : Shape := ⟨0, ![]⟩

/-- What the reference computes: the column sums, divided by 16384. -/
theorem reference_value (X : (Tbl 16384).Idx → EReal) (hr : (Tbl 16384).ReducesTo [0] S1024) (hu : 0 < One.numel)
    (hb : S1024.BroadcastsInDim S1x1024 ![1]) (hb' : One.BroadcastsInDim S1x1024 ![]) :
    Host.divf (F := Ideal) (φ := .f32) (broadcastInDim S1x1024 ![1] hb
        (Host.reduceAdd (F := Ideal) (φ := .f32) X (constant One .f32 0x00000000#32) hr hu))
      (broadcastInDim S1x1024 ![] hb' (constant One .f32 0x46800000#32)) = meanRow X := by
  funext i
  show Ideal.div (Ideal.hostReduceAdd hr X (Ideal.ofBits .f32 0x00000000#32) _) (Ideal.ofBits .f32 0x46800000#32) = _
  rw [divisor, Ideal.div_coe (by norm_num), Ideal.hostReduceAdd_r2_a0, Ideal.ofBits_zero_f32, zero_add]
  unfold meanRow
  rw [colSum_fin]
  rfl

end Cert.ColMean

end
-- ==== Proof.lean ====
/-
  The claims of this directory, put together: the frames of the kernel, of the idealized kernel and of the reference, that
  nothing was rewritten, and that the kernel's result is the mean of the whole table's rows, which the reference computes.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Final
public import proofs.«01_k».proof.Proof.Mean
public import Idealize.ShloMosaic.Adequacy
public import Idealize.ShloMosaic.Init

@[expose] public section

noncomputable section

namespace Cert.Proof

open Idealize.ShloMosaic Idealize.SL.Sem Cert.Kernel

/-- The two programs' tables of bodies are the same. -/
theorem bodies_same : Cert.Kernel.defs₀ (F := Bits) = Cert.KernelIdeal.defs₀ (F := Bits) := by
  unfold Cert.Kernel.defs₀ Cert.KernelIdeal.defs₀
  congr 1
  funext l a
  match l, a with
  | 0, (_, _) => rfl
  | ⟨_ + 1, h⟩, _ => exact absurd h (by omega)

/-- So the two programs' tables are, with the pipeline's own entries. -/
theorem defs_same : Cert.Kernel.defs (F := Bits) = Cert.KernelIdeal.defs (F := Bits) := by
  unfold Cert.Kernel.defs Cert.KernelIdeal.defs
  rw [bodies_same]
  rfl

/-- The kernel, on machine words: every execution ends, the operand is as it was and every semaphore is at zero. It has
    the same text as the idealized kernel, whose run holds over any float values. -/
theorem frame_kernel : Cert.quiescent_Kernel := fun m ρ _ => by
  rw [defs_same]
  exact (θ_run Cert.KernelIdeal.defs _ _).mono (fun _ h => h.2) (Cert.ColMean.run_main (F := Bits) m ρ)

/-- The same of the idealized kernel, on extended reals. -/
theorem frame_kernelIdeal : Cert.quiescent_KernelIdeal := fun m ρ _ =>
  (θ_run Cert.KernelIdeal.defs _ _).mono (fun _ h => h.2) (Cert.ColMean.run_main (F := Ideal) m ρ)

/-- The reference ends with its argument as it was; it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Nothing was rewritten in the kernel to idealize it. -/
theorem preserves_kernel : Cert.preserves_Kernel_KernelIdeal := trivial

/-- In exact arithmetic: if each device holds its block of the reference's table, then every device's result is the row of
    the table's column means, which is the reference's result, and no argument changes. -/
theorem algebraic_kernel : Cert.algebraic_KernelIdeal_ReferenceIdeal := by
  intro m ρ m' ρ' _ hm
  refine ⟨Cert.ColMean.meanRow (m' (((0 : Dev Cert.ReferenceIdeal.nD).tc : Thread _ Cert.ReferenceIdeal.τ).loc Cert.ReferenceIdeal.main_arg0)), ?_, ?_⟩
  · refine (θ_run Cert.KernelIdeal.defs _ _).mono (fun _ h c => ⟨(h.1 c 0).trans ((Cert.ColMean.final_row m ρ c).trans ?_), h.2.1 c⟩)
      (Cert.ColMean.run_main (F := Ideal) m ρ)
    exact Cert.ColMean.kernel_value _ (by decide) (Cert.ColMean.block m) hm c
  · exact (θ_run Cert.ReferenceIdeal.defs _ _).mono (fun _ h => ⟨(h 0).1.trans (Cert.ColMean.reference_value _ _ _ _ _), (h 0).2⟩)
      (Cert.ReferenceIdeal.Value.run (F := Ideal) m' ρ')

/-- Every claim of the directory. -/
theorem claim : Cert.Claim := ⟨Cert.Kernel.Gen.facts, Cert.KernelIdeal.Gen.facts, Cert.ReferenceIdeal.Gen.facts,
  frame_kernel, frame_kernelIdeal, frame_reference, preserves_kernel, algebraic_kernel⟩

end Cert.Proof

end
